-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "log_gamma0" .f32 0xBD020AEC#32 ((Real.log (31 / 32) : ℝ) : EReal)
  ∧ IdealRules.named_const.Statement Cert.Kernel7Ideal.κ "log_gamma1" .f32 0xBC8102B3#32 ((Real.log (63 / 64) : ℝ) : EReal)
  ∧ IdealRules.named_const.Statement Cert.Kernel7Ideal.κ "log_gamma2" .f32 0xBC0080AC#32 ((Real.log (127 / 128) : ℝ) : EReal)
  ∧ IdealRules.named_const.Statement Cert.Kernel7Ideal.κ "log_gamma3" .f32 0xBB80402B#32 ((Real.log (255 / 256) : ℝ) : EReal)
  ∧ IdealRules.named_const.Statement Cert.Kernel7Ideal.κ "gamma0" .f32 0x3F469444#32 ((852891037441 / 1099511627776 : ℝ) : EReal)
  ∧ IdealRules.named_const.Statement Cert.Kernel7Ideal.κ "gamma1" .f32 0x3F61B245#32 ((248155780267521 / 281474976710656 : ℝ) : EReal)
  ∧ IdealRules.named_const.Statement Cert.Kernel7Ideal.κ "gamma2" .f32 0x3F706E44#32 ((67675234241018881 / 72057594037927936 : ℝ) : EReal)
  ∧ IdealRules.named_const.Statement Cert.Kernel7Ideal.κ "gamma3" .f32 0x3F781BC8#32 ((17878103347812890625 / 18446744073709551616 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v143) = v0 c
          ∧ r.2.mem ((c.tc : Thread Cert.Reference7Ideal.nD Cert.Reference7Ideal.τ).loc Cert.Reference7Ideal.main_v123) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S1x2048x8208 : Shape := ⟨3, ![1, 2048, 8208]⟩
abbrev S2048x8208 : Shape := ⟨2, ![2048, 8208]⟩
abbrev S8208x2048 : Shape := ⟨2, ![8208, 2048]⟩
abbrev S2048x8192 : Shape := ⟨2, ![2048, 8192]⟩
abbrev S2048x128 : Shape := ⟨2, ![2048, 128]⟩
abbrev S256x2048 : Shape := ⟨2, ![256, 2048]⟩
abbrev S16x2048 : Shape := ⟨2, ![16, 2048]⟩
abbrev S2048x256 : Shape := ⟨2, ![2048, 256]⟩
abbrev S256x256 : Shape := ⟨2, ![256, 256]⟩
abbrev S2048x16 : Shape := ⟨2, ![2048, 16]⟩
abbrev S2048x112 : Shape := ⟨2, ![2048, 112]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x8208, .f32⟩
  | .hbm, ⟨1, _⟩ => ⟨S2048x8208, .f32⟩
  | .hbm, ⟨2, _⟩ => ⟨S8208x2048, .f32⟩
  | .hbm, ⟨3, _⟩ => ⟨S2048x8192, .bf16⟩
  | .hbm, ⟨4, _⟩ => ⟨S2048x128, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S2048x256, .bf16⟩
  | .local _ .vmem, ⟨4, _⟩ => ⟨S2048x256, .bf16⟩
  | .local _ .vmem, ⟨5, _⟩ => ⟨S2048x128, .bf16⟩
  | _, _ => ⟨S1x2048x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  let c16_i32 : BitVec 32 := 16#32
  let c256_i32_0 : BitVec 32 := 256#32
  let v1 : BitVec 32 := Scalar.muli arg0 c256_i32_0
  let c4096_i32 : BitVec 32 := 4096#32
  let v2 : BitVec 1 := Scalar.cmpi .sge v1 c4096_i32
  let v3 : BitVec 32 := Scalar.extui v2
  let v4 : BitVec 32 := Scalar.muli c16_i32 v3
  let v5 : BitVec 32 := Scalar.addi v0 v4
  v5
def k0_cond1 (i : grid0.Coords) : BitVec 1 :=
  let arg0 : BitVec 32 := BitVec.ofNat 32 (i 0).val
  let c16_i32 : BitVec 32 := 16#32
  let v0 : BitVec 1 := Scalar.cmpi .sge arg0 c16_i32
  let c24_i32 : BitVec 32 := 24#32
  let v1 : BitVec 1 := Scalar.cmpi .slt arg0 c24_i32
  let v2 : BitVec 1 := Scalar.andi v0 v1
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c16_i32 : BitVec 32 := 16#32
  let v0 : BitVec 1 := Scalar.cmpi .sge arg0 c16_i32
  let c24_i32 : BitVec 32 := 24#32
  let v1 : BitVec 1 := Scalar.cmpi .slt arg0 c24_i32
  let v2 : BitVec 1 := Scalar.andi v0 v1
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def k0_cond3 (i : grid0.Coords) : BitVec 1 :=
  let arg0 : BitVec 32 := BitVec.ofNat 32 (i 0).val
  let c0_i32_1 : BitVec 32 := 0#32
  let v8 : BitVec 1 := Scalar.cmpi .eq arg0 c0_i32_1
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.muli arg0 c256_i32_0
  let c4096_i32 : BitVec 32 := 4096#32
  let v2 : BitVec 1 := Scalar.cmpi .sge v1 c4096_i32
  let v3 : BitVec 32 := Scalar.extui v2
  let c16_i32 : BitVec 32 := 16#32
  let v4 : BitVec 32 := Scalar.muli c16_i32 v3
  let v5 : BitVec 32 := Scalar.addi v0 v4
  let v6 : BitVec 32 := v5
  let c0_i32 : BitVec 32 := 0#32
  let c0_i32_1 : BitVec 32 := 0#32
  ![v6.toNat, c0_i32.toNat]

def cc0_transform_1 (i : grid0.Coords) : Fin 2 → Nat :=
  let arg0 : BitVec 32 := BitVec.ofNat 32 (i 0).val
  let c256_i32 : BitVec 32 := 256#32
  let c0_i32 : BitVec 32 := 0#32
  let c0_i32_0 : BitVec 32 := 0#32
  ![c256_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x2048x8208 : Shape := ⟨3, ![1, 2048, 8208]⟩
abbrev S2048x8208 : Shape := ⟨2, ![2048, 8208]⟩
abbrev S2048x3072 : Shape := ⟨2, ![2048, 3072]⟩
abbrev S2048x1024 : Shape := ⟨2, ![2048, 1024]⟩
abbrev S2048x8 : Shape := ⟨2, ![2048, 8]⟩
abbrev S2048x4x128x2 : Shape := ⟨4, ![2048, 4, 128, 2]⟩
abbrev S2048x4x2x128 : Shape := ⟨4, ![2048, 4, 2, 128]⟩
abbrev S2048x8192 : Shape := ⟨2, ![2048, 8192]⟩
abbrev S2048x16 : Shape := ⟨2, ![2048, 16]⟩
abbrev S_ : Shape := ⟨0, ![]⟩
abbrev S2048x128 : Shape := ⟨2, ![2048, 128]⟩

abbrev nBuf : Space → Nat
  | .hbm => 22
  | .vmem => 0
  | .smem => 0
  | _ => 0

abbrev bufTy : (tb : Table) → Fin (tcTables nBuf tb) → BufTy
  | .hbm, ⟨0, _⟩ => ⟨S1x2048x8208, .f32⟩
  | .hbm, ⟨1, _⟩ => ⟨S2048x8208, .f32⟩
  | .hbm, ⟨2, _⟩ => ⟨S2048x8208, .bf16⟩
  | .hbm, ⟨3, _⟩ => ⟨S2048x3072, .bf16⟩
  | .hbm, ⟨4, _⟩ => ⟨S2048x1024, .bf16⟩
  | .hbm, ⟨5, _⟩ => ⟨S2048x8, .bf16⟩
  | .hbm, ⟨6, _⟩ => ⟨S2048x8, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x4x128x2, .bf16⟩
  | .hbm, ⟨12, _⟩ => ⟨S2048x4x2x128, .bf16⟩
  | .hbm, ⟨13, _⟩ => ⟨S2048x1024, .bf16⟩
  | .hbm, ⟨14, _⟩ => ⟨S2048x4x128x2, .bf16⟩
  | .hbm, ⟨15, _⟩ => ⟨S2048x4x2x128, .bf16⟩
  | .hbm, ⟨16, _⟩ => ⟨S2048x1024, .bf16⟩
  | .hbm, ⟨17, _⟩ => ⟨S2048x8192, .bf16⟩
  | .hbm, ⟨18, _⟩ => ⟨S2048x16, .bf16⟩
  | .hbm, ⟨19, _⟩ => ⟨S_, .i32⟩
  | .hbm, ⟨20, _⟩ => ⟨S_, .bf16⟩
  | .hbm, ⟨21, _⟩ => ⟨S2048x128, .bf16⟩
  | _, _ => ⟨S1x2048x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_c : Ref sig .tc := ⟨.hbm, 19, rfl⟩
abbrev main_call0_v0 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel2.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S8192x2048 : Shape := ⟨2, ![8192, 2048]⟩
abbrev S2048x5632 : Shape := ⟨2, ![2048, 5632]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8192x2048, .f32⟩
  | .hbm, ⟨7, _⟩ => ⟨S2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5632 : Shape := ⟨2, ![2048, 5632]⟩
abbrev S4x2048x5632 : Shape := ⟨3, ![4, 2048, 5632]⟩
abbrev S5632x2048 : Shape := ⟨2, ![5632, 2048]⟩
abbrev S8192x2048 : Shape := ⟨2, ![8192, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S2048x5632, .f32⟩
  | .hbm, ⟨24, _⟩ => ⟨S4x2048x5632, .f32⟩
  | .hbm, ⟨25, _⟩ => ⟨S2048x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S_, .f32⟩
  | .hbm, ⟨30, _⟩ => ⟨S4x2048x5632, .f32⟩
  | .hbm, ⟨31, _⟩ => ⟨S4x2048x5632, .f32⟩
  | .hbm, ⟨32, _⟩ => ⟨S_, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S5632x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | .hbm, ⟨56, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel3.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S1x2048, .f32⟩
  | .hbm, ⟨7, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x256x2048 : Shape := ⟨3, ![4, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x2048 : Shape := ⟨2, ![2048, 2048]⟩
abbrev S1024x2048 : Shape := ⟨2, ![1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x2048, .f32⟩
  | .hbm, ⟨21, _⟩ => ⟨S4x256x2048, .f32⟩
  | .hbm, ⟨22, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S4x2048x2048 : Shape := ⟨3, ![4, 2048, 2048]⟩
abbrev S4x256x4x512 : Shape := ⟨4, ![4, 256, 4, 512]⟩
abbrev S1x2048x2048 : Shape := ⟨3, ![1, 2048, 2048]⟩
abbrev S8192x2048 : Shape := ⟨2, ![8192, 2048]⟩
abbrev S4x256x2048 : Shape := ⟨3, ![4, 256, 2048]⟩
abbrev S2048x2048 : Shape := ⟨2, ![2048, 2048]⟩
abbrev S512x2048 : Shape := ⟨2, ![512, 2048]⟩
abbrev S1x256x2048 : Shape := ⟨3, ![1, 256, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x256x4x512, .f32⟩
  | .hbm, ⟨2, _⟩ => ⟨S4x256x4x512, .f32⟩
  | .hbm, ⟨3, _⟩ => ⟨S1x2048x2048, .f32⟩
  | .hbm, ⟨4, _⟩ => ⟨S4x2048x2048, .f32⟩
  | .hbm, ⟨5, _⟩ => ⟨S8192x2048, .f32⟩
  | .hbm, ⟨6, _⟩ => ⟨S8192x2048, .bf16⟩
  | .hbm, ⟨7, _⟩ => ⟨S4x256x2048, .f32⟩
  | .hbm, ⟨8, _⟩ => ⟨S4x256x2048, .f32⟩
  | .hbm, ⟨9, _⟩ => ⟨S2048x2048, .f32⟩
  | .hbm, ⟨10, _⟩ => ⟨S2048x2048, .bf16⟩
  | .hbm, ⟨11, _⟩ => ⟨S8192x2048, .f32⟩
  | .hbm, ⟨12, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x2048x2048 : Shape := ⟨3, ![4, 2048, 2048]⟩
abbrev S4x256x4x512 : Shape := ⟨4, ![4, 256, 4, 512]⟩
abbrev S1x2048x2048 : Shape := ⟨3, ![1, 2048, 2048]⟩
abbrev S4x2048x4x512 : Shape := ⟨4, ![4, 2048, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩
abbrev S2048x2048 : Shape := ⟨2, ![2048, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x4x512, .f32⟩
  | .hbm, ⟨2, _⟩ => ⟨S4x256x4x512, .f32⟩
  | .hbm, ⟨3, _⟩ => ⟨S1x2048x2048, .f32⟩
  | .hbm, ⟨4, _⟩ => ⟨S4x2048x2048, .f32⟩
  | .hbm, ⟨5, _⟩ => ⟨S4x2048x4x512, .f32⟩
  | .hbm, ⟨6, _⟩ => ⟨S4x4x2048x256, .f32⟩
  | .hbm, ⟨7, _⟩ => ⟨S_, .f32⟩
  | .hbm, ⟨8, _⟩ => ⟨S4x4x2048x256, .f32⟩
  | .hbm, ⟨9, _⟩ => ⟨S4x4x2048x256, .f32⟩
  | .hbm, ⟨10, _⟩ => ⟨S_, .f32⟩
  | .hbm, ⟨11, _⟩ => ⟨S4x4x2048, .f32⟩
  | .hbm, ⟨12, _⟩ => ⟨S_, .f32⟩
  | .hbm, ⟨13, _⟩ => ⟨S4x4x2048, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x512x2048, .f32⟩
  | .hbm, ⟨25, _⟩ => ⟨S4x2048x4x512, .f32⟩
  | .hbm, ⟨26, _⟩ => ⟨S4x2048x2048, .f32⟩
  | .hbm, ⟨27, _⟩ => ⟨S2048x2048, .f32⟩
  | .hbm, ⟨28, _⟩ => ⟨S4x2048x2048, .f32⟩
  | .hbm, ⟨29, _⟩ => ⟨S4x2048x2048, .f32⟩
  | .hbm, ⟨30, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S4x2048x1024 : Shape := ⟨3, ![4, 2048, 1024]⟩
abbrev S1x2048x2048 : Shape := ⟨3, ![1, 2048, 2048]⟩
abbrev S4x2048x2048 : Shape := ⟨3, ![4, 2048, 2048]⟩
abbrev S1x2048 : Shape := ⟨2, ![1, 2048]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S1x2048x2048, .f32⟩
  | .hbm, ⟨3, _⟩ => ⟨S4x2048x2048, .f32⟩
  | .hbm, ⟨4, _⟩ => ⟨S1x2048, .f32⟩
  | .hbm, ⟨5, _⟩ => ⟨S1x2048x2048, .f32⟩
  | .hbm, ⟨6, _⟩ => ⟨S8192x1024, .bf16⟩
  | .hbm, ⟨7, _⟩ => ⟨S8192x1024, .bf16⟩
  | .hbm, ⟨8, _⟩ => ⟨S2048x2048, .f32⟩
  | .hbm, ⟨9, _⟩ => ⟨S2048x2048, .bf16⟩
  | .hbm, ⟨10, _⟩ => ⟨S8192x2048, .f32⟩
  | .hbm, ⟨11, _⟩ => ⟨S2048, .f32⟩
  | .hbm, ⟨12, _⟩ => ⟨S2048x2048, .f32⟩
  | .hbm, ⟨13, _⟩ => ⟨S2048x2048, .bf16⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x2048x1024 : Shape := ⟨3, ![4, 2048, 1024]⟩
abbrev S1x2048x2048 : Shape := ⟨3, ![1, 2048, 2048]⟩
abbrev S4x2048x2048 : Shape := ⟨3, ![4, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S1x2048x2048, .f32⟩
  | .hbm, ⟨3, _⟩ => ⟨S4x2048x2048, .f32⟩
  | .hbm, ⟨4, _⟩ => ⟨S1x2048, .f32⟩
  | .hbm, ⟨5, _⟩ => ⟨S1x2048x2048, .f32⟩
  | .hbm, ⟨6, _⟩ => ⟨S4x2048x1024, .f32⟩
  | .hbm, ⟨7, _⟩ => ⟨S4x2048x1024, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S2048x2048, .f32⟩
  | .hbm, ⟨30, _⟩ => ⟨S4x2048x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel6.lean ====
abbrev S4x2048x2048 : Shape := ⟨3, ![4, 2048, 2048]⟩
abbrev S1x2048 : Shape := ⟨2, ![1, 2048]⟩
abbrev S2048x8192 : Shape := ⟨2, ![2048, 8192]⟩
abbrev S2048x128 : Shape := ⟨2, ![2048, 128]⟩
abbrev S8192x2048 : Shape := ⟨2, ![8192, 2048]⟩
abbrev S2048 : Shape := ⟨1, ![2048]⟩
abbrev S8192x8192 : Shape := ⟨2, ![8192, 8192]⟩
abbrev S8192x128 : Shape := ⟨2, ![8192, 128]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S2048x8192, .bf16⟩
  | .hbm, ⟨3, _⟩ => ⟨S2048x128, .bf16⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x8192, .bf16⟩
  | .hbm, ⟨8, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x128, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S4x2048x2048 : Shape := ⟨3, ![4, 2048, 2048]⟩
abbrev S1x2048 : Shape := ⟨2, ![1, 2048]⟩
abbrev S2048x8192 : Shape := ⟨2, ![2048, 8192]⟩
abbrev S2048x128 : Shape := ⟨2, ![2048, 128]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩
abbrev S8192x8192 : Shape := ⟨2, ![8192, 8192]⟩
abbrev S4x2048x128 : Shape := ⟨3, ![4, 2048, 128]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S2048x8192, .bf16⟩
  | .hbm, ⟨3, _⟩ => ⟨S2048x128, .bf16⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x8192, .f32⟩
  | .hbm, ⟨22, _⟩ => ⟨S4x2048x8192, .f32⟩
  | .hbm, ⟨23, _⟩ => ⟨S8192x8192, .f32⟩
  | .hbm, ⟨24, _⟩ => ⟨S8192x8192, .bf16⟩
  | .hbm, ⟨25, _⟩ => ⟨S2048x128, .f32⟩
  | .hbm, ⟨26, _⟩ => ⟨S4x2048x128, .f32⟩
  | .hbm, ⟨27, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S1024x8192 : Shape := ⟨2, ![1024, 8192]⟩
abbrev S1x1024 : Shape := ⟨2, ![1, 1024]⟩
abbrev S1x128x4x256x256 : Shape := ⟨5, ![1, 128, 4, 256, 256]⟩
abbrev S_ : Shape := ⟨0, ![]⟩
abbrev S127 : Shape := ⟨1, ![127]⟩
abbrev S1 : Shape := ⟨1, ![1]⟩
abbrev S128 : Shape := ⟨1, ![128]⟩
abbrev S8 : Shape := ⟨1, ![8]⟩
abbrev S8x1 : Shape := ⟨2, ![8, 1]⟩
abbrev S1x128 : Shape := ⟨2, ![1, 128]⟩
abbrev S8x128 : Shape := ⟨2, ![8, 128]⟩
abbrev S128x8x8192 : Shape := ⟨3, ![128, 8, 8192]⟩
abbrev S1024 : Shape := ⟨1, ![1024]⟩
abbrev S128x4x256x256 : Shape := ⟨4, ![128, 4, 256, 256]⟩
abbrev S128x8x1024 : Shape := ⟨3, ![128, 8, 1024]⟩
abbrev S8x8x1024 : Shape := ⟨3, ![8, 8, 1024]⟩
abbrev S8x4x256x256 : Shape := ⟨4, ![8, 4, 256, 256]⟩
abbrev S8x8 : Shape := ⟨2, ![8, 8]⟩
abbrev S256x256 : Shape := ⟨2, ![256, 256]⟩
abbrev S1x8x256 : Shape := ⟨3, ![1, 8, 256]⟩
abbrev S8x256 : Shape := ⟨2, ![8, 256]⟩
abbrev S512x256 : Shape := ⟨2, ![512, 256]⟩
abbrev S1x1x256x256 : Shape := ⟨4, ![1, 1, 256, 256]⟩
abbrev S1x256 : Shape := ⟨2, ![1, 256]⟩
abbrev S8x1024 : Shape := ⟨2, ![8, 1024]⟩
abbrev S1x8x1024 : Shape := ⟨3, ![1, 8, 1024]⟩

abbrev nBuf : Space → Nat
  | .hbm => 47
  | .vmem => 17
  | .smem => 0
  | _ => 0

abbrev bufTy : (tb : Table) → Fin (tcTables nBuf tb) → BufTy
  | .hbm, ⟨0, _⟩ => ⟨S1024x8192, .f32⟩
  | .hbm, ⟨1, _⟩ => ⟨S1x1024, .f32⟩
  | .hbm, ⟨2, _⟩ => ⟨S1x128x4x256x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S_, .f32⟩
  | .hbm, ⟨12, _⟩ => ⟨S127, .f32⟩
  | .hbm, ⟨13, _⟩ => ⟨S127, .f32⟩
  | .hbm, ⟨14, _⟩ => ⟨S1, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8x1, .f32⟩
  | .hbm, ⟨35, _⟩ => ⟨S1x128, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S8x128, .f32⟩
  | .hbm, ⟨41, _⟩ => ⟨S128x8x8192, .f32⟩
  | .hbm, ⟨42, _⟩ => ⟨S1024, .f32⟩
  | .hbm, ⟨43, _⟩ => ⟨S128x4x256x256, .f32⟩
  | .hbm, ⟨44, _⟩ => ⟨S1x1024, .f32⟩
  | .hbm, ⟨45, _⟩ => ⟨S128x8x1024, .f32⟩
  | .hbm, ⟨46, _⟩ => ⟨S128x4x256x256, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S8x8x1024, .f32⟩
  | .local _ .vmem, ⟨7, _⟩ => ⟨S8x8x1024, .f32⟩
  | .local _ .vmem, ⟨8, _⟩ => ⟨S8x128, .f32⟩
  | .local _ .vmem, ⟨9, _⟩ => ⟨S8x128, .f32⟩
  | .local _ .vmem, ⟨10, _⟩ => ⟨S1x1024, .f32⟩
  | .local _ .vmem, ⟨11, _⟩ => ⟨S8x4x256x256, .f32⟩
  | .local _ .vmem, ⟨12, _⟩ => ⟨S8x4x256x256, .f32⟩
  | .local _ .vmem, ⟨13, _⟩ => ⟨S8x8x1024, .f32⟩
  | .local _ .vmem, ⟨14, _⟩ => ⟨S8x8x1024, .f32⟩
  | .local _ .vmem, ⟨15, _⟩ => ⟨S8x4x256x256, .f32⟩
  | .local _ .vmem, ⟨16, _⟩ => ⟨S8x4x256x256, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_cst_1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18_0 : Ref sig .tc := ⟨.hbm, 45, rfl⟩
abbrev main_v18_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel7Ideal.lean ====
variable {F : FTy → Type} [FloatOps F] [Named F]
def κ : String → Option EReal := fun
  | "gamma0" => some ((852891037441 / 1099511627776 : ℝ) : EReal)
  | "gamma1" => some ((248155780267521 / 281474976710656 : ℝ) : EReal)
  | "gamma2" => some ((67675234241018881 / 72057594037927936 : ℝ) : EReal)
  | "gamma3" => some ((17878103347812890625 / 18446744073709551616 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== Reference7Ideal.lean ====
abbrev S1024x8192 : Shape := ⟨2, ![1024, 8192]⟩
abbrev S1x1024 : Shape := ⟨2, ![1, 1024]⟩
abbrev S1x128x4x256x256 : Shape := ⟨5, ![1, 128, 4, 256, 256]⟩
abbrev S128x8x8192 : Shape := ⟨3, ![128, 8, 8192]⟩
abbrev S128x8x4096 : Shape := ⟨3, ![128, 8, 4096]⟩
abbrev S128x8x1024 : Shape := ⟨3, ![128, 8, 1024]⟩
abbrev S8 : Shape := ⟨1, ![8]⟩
abbrev S_ : Shape := ⟨0, ![]⟩
abbrev S128x8x4x256 : Shape := ⟨4, ![128, 8, 4, 256]⟩
abbrev S128x8x4x128 : Shape := ⟨4, ![128, 8, 4, 128]⟩
abbrev S127 : Shape := ⟨1, ![127]⟩
abbrev S1 : Shape := ⟨1, ![1]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S128x8x4x128x1 : Shape := ⟨5, ![128, 8, 4, 128, 1]⟩
abbrev S128x8x4x128x2 : Shape := ⟨5, ![128, 8, 4, 128, 2]⟩
abbrev S4 : Shape := ⟨1, ![4]⟩
abbrev S128x4x256x256 : Shape := ⟨4, ![128, 4, 256, 256]⟩
abbrev S128x4x8x256 : Shape := ⟨4, ![128, 4, 8, 256]⟩
abbrev S4x1 : Shape := ⟨2, ![4, 1]⟩
abbrev S4x8 : Shape := ⟨2, ![4, 8]⟩
abbrev S8x8 : Shape := ⟨2, ![8, 8]⟩
abbrev S4x8x1 : Shape := ⟨3, ![4, 8, 1]⟩
abbrev S4x1x8 : Shape := ⟨3, ![4, 1, 8]⟩
abbrev S4x8x8 : Shape := ⟨3, ![4, 8, 8]⟩
abbrev S128x4x8x8 : Shape := ⟨4, ![128, 4, 8, 8]⟩
abbrev S1x4x8x8 : Shape := ⟨4, ![1, 4, 8, 8]⟩
abbrev S1x4x8x1 : Shape := ⟨4, ![1, 4, 8, 1]⟩
abbrev S4x1x1 : Shape := ⟨3, ![4, 1, 1]⟩
abbrev S1x4x1x1 : Shape := ⟨4, ![1, 4, 1, 1]⟩
abbrev S128x8x4 : Shape := ⟨3, ![128, 8, 4]⟩
abbrev S128x8x4x1 : Shape := ⟨4, ![128, 8, 4, 1]⟩
abbrev S1024 : Shape := ⟨1, ![1024]⟩
abbrev S4x256 : Shape := ⟨2, ![4, 256]⟩
abbrev S1x1x4x256 : Shape := ⟨4, ![1, 1, 4, 256]⟩

abbrev nBuf : Space → Nat
  | .hbm => 223
  | .vmem => 0
  | .smem => 0
  | _ => 0

abbrev hbmTy0_0 (i : Nat) : BufTy := match i % 128 with
  | 0 => ⟨S1024x8192, .f32⟩
  | 1 => ⟨S1x1024, .f32⟩
  | 2 => ⟨S1x128x4x256x256, .f32⟩
  | 3 => ⟨S128x8x8192, .f32⟩
  | 4 => ⟨S128x8x4096, .f32⟩
  | 5 => ⟨S128x8x1024, .f32⟩
  | 6 => ⟨S128x8x1024, .f32⟩
  | 7 => ⟨S128x8x1024, .f32⟩
  | 8 => ⟨S128x8x1024, .f32⟩
  | 9 => ⟨S8, .f32⟩
  | 10 => ⟨S_, .f32⟩
  | 11 => ⟨S8, .f32⟩
  | 12 => ⟨S8, .f32⟩
  | 13 => ⟨S128x8x4x256, .f32⟩
  | 14 => ⟨S128x8x4x128, .f32⟩
  | 15 => ⟨S128x8x4x128, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S127, .f32⟩
  | 24 => ⟨S_, .f32⟩
  | 25 => ⟨S127, .f32⟩
  | 26 => ⟨S127, .f32⟩
  | 27 => ⟨S1, .f32⟩
  | 28 => ⟨S_, .f32⟩
  | 29 => ⟨S127, .f32⟩
  | 30 => ⟨S127, .f32⟩
  | 31 => ⟨S127, .f32⟩
  | 32 => ⟨S127, .f32⟩
  | 33 => ⟨S1, .f32⟩
  | 34 => ⟨S127, .f32⟩
  | 35 => ⟨S127, .f32⟩
  | 36 => ⟨S127, .f32⟩
  | 37 => ⟨S1, .f32⟩
  | 38 => ⟨S128, .f32⟩
  | 39 => ⟨S128, .f32⟩
  | 40 => ⟨S_, .f32⟩
  | 41 => ⟨S128, .f32⟩
  | 42 => ⟨S128, .f32⟩
  | 43 => ⟨S8x1, .f32⟩
  | 44 => ⟨S1x128, .f32⟩
  | 45 => ⟨S8x128, .f32⟩
  | 46 => ⟨S8x128, .f32⟩
  | 47 => ⟨S8x128, .f32⟩
  | 48 => ⟨S8x128, .f32⟩
  | 49 => ⟨S1x8x1x128, .f32⟩
  | 50 => ⟨S8x128, .f32⟩
  | 51 => ⟨S1x8x1x128, .f32⟩
  | 52 => ⟨S128x8x4x128, .f32⟩
  | 53 => ⟨S128x8x4x128, .f32⟩
  | 54 => ⟨S128x8x4x128, .f32⟩
  | 55 => ⟨S128x8x4x128, .f32⟩
  | 56 => ⟨S128x8x4x128, .f32⟩
  | 57 => ⟨S128x8x4x128, .f32⟩
  | 58 => ⟨S128x8x4x128, .f32⟩
  | 59 => ⟨S128x8x4x128, .f32⟩
  | 60 => ⟨S128x8x4x128, .f32⟩
  | 61 => ⟨S128x8x4x128, .f32⟩
  | 62 => ⟨S128x8x4x128x1, .f32⟩
  | 63 => ⟨S128x8x4x128x1, .f32⟩
  | 64 => ⟨S128x8x4x128x2, .f32⟩
  | 65 => ⟨S128x8x4x256, .f32⟩
  | 66 => ⟨S128x8x4x256, .f32⟩
  | 67 => ⟨S128x8x4x128, .f32⟩
  | 68 => ⟨S128x8x4x128, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S127, .f32⟩
  | 77 => ⟨S_, .f32⟩
  | 78 => ⟨S127, .f32⟩
  | 79 => ⟨S127, .f32⟩
  | 80 => ⟨S1, .f32⟩
  | 81 => ⟨S_, .f32⟩
  | 82 => ⟨S127, .f32⟩
  | 83 => ⟨S127, .f32⟩
  | 84 => ⟨S127, .f32⟩
  | 85 => ⟨S127, .f32⟩
  | 86 => ⟨S1, .f32⟩
  | 87 => ⟨S127, .f32⟩
  | 88 => ⟨S127, .f32⟩
  | 89 => ⟨S127, .f32⟩
  | 90 => ⟨S1, .f32⟩
  | 91 => ⟨S128, .f32⟩
  | 92 => ⟨S128, .f32⟩
  | 93 => ⟨S_, .f32⟩
  | 94 => ⟨S128, .f32⟩
  | 95 => ⟨S128, .f32⟩
  | 96 => ⟨S8x1, .f32⟩
  | 97 => ⟨S1x128, .f32⟩
  | 98 => ⟨S8x128, .f32⟩
  | 99 => ⟨S8x128, .f32⟩
  | 100 => ⟨S8x128, .f32⟩
  | 101 => ⟨S8x128, .f32⟩
  | 102 => ⟨S1x8x1x128, .f32⟩
  | 103 => ⟨S8x128, .f32⟩
  | 104 => ⟨S1x8x1x128, .f32⟩
  | 105 => ⟨S128x8x4x128, .f32⟩
  | 106 => ⟨S128x8x4x128, .f32⟩
  | 107 => ⟨S128x8x4x128, .f32⟩
  | 108 => ⟨S128x8x4x128, .f32⟩
  | 109 => ⟨S128x8x4x128, .f32⟩
  | 110 => ⟨S128x8x4x128, .f32⟩
  | 111 => ⟨S128x8x4x128, .f32⟩
  | 112 => ⟨S128x8x4x128, .f32⟩
  | 113 => ⟨S128x8x4x128, .f32⟩
  | 114 => ⟨S128x8x4x128, .f32⟩
  | 115 => ⟨S128x8x4x128x1, .f32⟩
  | 116 => ⟨S128x8x4x128x1, .f32⟩
  | 117 => ⟨S128x8x4x128x2, .f32⟩
  | 118 => ⟨S128x8x4x256, .f32⟩
  | 119 => ⟨S_, .f32⟩
  | 120 => ⟨S128x8x4x256, .f32⟩
  | 121 => ⟨S128x8x4x256, .f32⟩
  | 122 => ⟨S128x8x4x256, .f32⟩
  | 123 => ⟨S4, .f32⟩
  | 124 => ⟨S_, .f32⟩
  | 125 => ⟨S4, .f32⟩
  | 126 => ⟨S4, .f32⟩
  | 127 => ⟨S_, .f32⟩
  | _ => ⟨S1024x8192, .f32⟩

abbrev hbmTy0_1 (i : Nat) : BufTy := match i % 128 with
  | 0 => ⟨S4, .f32⟩
  | 1 => ⟨S4, .f32⟩
  | 2 => ⟨S4, .f32⟩
  | 3 => ⟨S4, .f32⟩
  | 4 => ⟨S128x4x256x256, .f32⟩
  | 5 => ⟨S128x4x8x256, .f32⟩
  | 6 => ⟨S128x4x8x256, .f32⟩
  | 7 => ⟨S128x4x8x256, .f32⟩
  | 8 => ⟨S4x1, .f32⟩
  | 9 => ⟨S4x8, .f32⟩
  | 10 => ⟨S_, .f32⟩
  | 11 => ⟨S_, .f32⟩
  | 12 => ⟨S4x8, .f32⟩
  | 13 => ⟨S_, .i1⟩
  | 14 => ⟨S8x8, .i1⟩
  | 15 => ⟨S8x8, .i32⟩
  | 16 => ⟨S_, .i32⟩
  | 17 => ⟨S8x8, .i32⟩
  | 18 => ⟨S8x8, .i32⟩
  | 19 => ⟨S8x8, .i32⟩
  | 20 => ⟨S8x8, .i1⟩
  | 21 => ⟨S_, .i1⟩
  | 22 => ⟨S8x8, .i1⟩
  | 23 => ⟨S8x8, .i1⟩
  | 24 => ⟨S4x8x1, .f32⟩
  | 25 => ⟨S4x1x8, .f32⟩
  | 26 => ⟨S4x8x8, .f32⟩
  | 27 => ⟨S4x8x8, .f32⟩
  | 28 => ⟨S4x8x8, .f32⟩
  | 29 => ⟨S_, .f32⟩
  | 30 => ⟨S_, .f32⟩
  | 31 => ⟨S4x8x8, .i1⟩
  | 32 => ⟨S4x8x8, .f32⟩
  | 33 => ⟨S4x8x8, .f32⟩
  | 34 => ⟨S4x8x8, .f32⟩
  | 35 => ⟨S128x4x8x8, .f32⟩
  | 36 => ⟨S1x4x8x8, .f32⟩
  | 37 => ⟨S128x4x8x8, .f32⟩
  | 38 => ⟨S128x4x8x8, .f32⟩
  | 39 => ⟨S128x4x8x256, .f32⟩
  | 40 => ⟨S4x8, .f32⟩
  | 41 => ⟨S4x8x1, .f32⟩
  | 42 => ⟨S1x4x8x1, .f32⟩
  | 43 => ⟨S128x4x8x256, .f32⟩
  | 44 => ⟨S128x4x8x256, .f32⟩
  | 45 => ⟨S128x4x8x256, .f32⟩
  | 46 => ⟨S128x4x8x256, .f32⟩
  | 47 => ⟨S4x1, .f32⟩
  | 48 => ⟨S4x8, .f32⟩
  | 49 => ⟨S4x8, .f32⟩
  | 50 => ⟨S4x8, .f32⟩
  | 51 => ⟨S4x8x1, .f32⟩
  | 52 => ⟨S1x4x8x1, .f32⟩
  | 53 => ⟨S128x4x8x256, .f32⟩
  | 54 => ⟨S128x4x8x256, .f32⟩
  | 55 => ⟨S4x1, .f32⟩
  | 56 => ⟨S4, .f32⟩
  | 57 => ⟨S4, .f32⟩
  | 58 => ⟨S4x1x1, .f32⟩
  | 59 => ⟨S1x4x1x1, .f32⟩
  | 60 => ⟨S128x4x256x256, .f32⟩
  | 61 => ⟨S128x4x256x256, .f32⟩
  | 62 => ⟨S128x4x256x256, .f32⟩
  | 63 => ⟨S128x4x256x256, .f32⟩
  | 64 => ⟨S128x8x4x256, .f32⟩
  | 65 => ⟨S128x8x4x256, .f32⟩
  | 66 => ⟨S_, .f32⟩
  | 67 => ⟨S128x8x4, .f32⟩
  | 68 => ⟨S128x8x4x1, .f32⟩
  | 69 => ⟨S_, .f32⟩
  | 70 => ⟨S128x8x4x1, .f32⟩
  | 71 => ⟨S128x8x4x1, .f32⟩
  | 72 => ⟨S_, .f32⟩
  | 73 => ⟨S128x8x4x1, .f32⟩
  | 74 => ⟨S128x8x4x1, .f32⟩
  | 75 => ⟨S128x8x4x1, .f32⟩
  | 76 => ⟨S128x8x4x256, .f32⟩
  | 77 => ⟨S128x8x4x256, .f32⟩
  | 78 => ⟨S1024, .f32⟩
  | 79 => ⟨S4x256, .f32⟩
  | 80 => ⟨S1x1x4x256, .f32⟩
  | 81 => ⟨S128x8x4x256, .f32⟩
  | 82 => ⟨S128x8x4x256, .f32⟩
  | 83 => ⟨S128x8x4x256, .f32⟩
  | 84 => ⟨S128x8x4x256, .f32⟩
  | 85 => ⟨S128x8x4x256, .f32⟩
  | 86 => ⟨S_, .f32⟩
  | 87 => ⟨S128x8x4x256, .f32⟩
  | 88 => ⟨S128x8x4x256, .f32⟩
  | 89 => ⟨S_, .f32⟩
  | 90 => ⟨S128x8x4x256, .f32⟩
  | 91 => ⟨S128x8x4x256, .f32⟩
  | 92 => ⟨S128x8x4x256, .f32⟩
  | 93 => ⟨S128x8x4x256, .f32⟩
  | 94 => ⟨S128x8x1024, .f32⟩
  | _ => ⟨S1024x8192, .f32⟩

abbrev hbmTy (i : Nat) : BufTy := match i / 128 with
  | 0 => hbmTy0_0 i
  | 1 => hbmTy0_1 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_3 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_cst : Ref sig .tc := ⟨.hbm, 74, rfl⟩
abbrev main_call1_v3 : Ref sig .tc := ⟨.hbm, 75, rfl⟩
abbrev main_call1_v4 : Ref sig .tc := ⟨.hbm, 76, rfl⟩
abbrev main_call1_cst_0 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_v15 : Ref sig .tc := ⟨.hbm, 89, rfl⟩
abbrev main_call1_v16 : Ref sig .tc := ⟨.hbm, 90, rfl⟩
abbrev main_v42 : Ref sig .tc := ⟨.hbm, 91, rfl⟩
abbrev main_v43 : Ref sig .tc := ⟨.hbm, 92, rfl⟩
abbrev main_cst_5 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_6 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_7 : Ref sig .tc := ⟨.hbm, 124, rfl⟩
abbrev main_v73 : Ref sig .tc := ⟨.hbm, 125, rfl⟩
abbrev main_v74 : Ref sig .tc := ⟨.hbm, 126, rfl⟩
abbrev main_cst_8 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_call2_call0_cst : Ref sig .tc := ⟨.hbm, 138, rfl⟩
abbrev main_call2_call0_v0 : Ref sig .tc := ⟨.hbm, 139, rfl⟩
abbrev main_v85 : Ref sig .tc := ⟨.hbm, 140, rfl⟩
abbrev main_c : Ref sig .tc := ⟨.hbm, 141, rfl⟩
abbrev main_v86 : Ref sig .tc := ⟨.hbm, 142, rfl⟩
abbrev main_call3_v0 : Ref sig .tc := ⟨.hbm, 143, rfl⟩
abbrev main_call3_c : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_c_0 : Ref sig .tc := ⟨.hbm, 149, rfl⟩
abbrev main_call3_v5 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_cst_9 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_10 : Ref sig .tc := ⟨.hbm, 194, rfl⟩
abbrev main_v126 : Ref sig .tc := ⟨.hbm, 195, rfl⟩
abbrev main_v127 : Ref sig .tc := ⟨.hbm, 196, rfl⟩
abbrev main_cst_11 : Ref sig .tc := ⟨.hbm, 197, rfl⟩
abbrev main_v128 : Ref sig .tc := ⟨.hbm, 198, rfl⟩
abbrev main_v129 : Ref sig .tc := ⟨.hbm, 199, rfl⟩
abbrev main_cst_12 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_call5_v0 : Ref sig .tc := ⟨.hbm, 212, rfl⟩
abbrev main_call5_v1 : Ref sig .tc := ⟨.hbm, 213, rfl⟩
abbrev main_call5_cst : Ref sig .tc := ⟨.hbm, 214, rfl⟩
abbrev main_call5_v2 : Ref sig .tc := ⟨.hbm, 215, rfl⟩
abbrev main_call5_v3 : Ref sig .tc := ⟨.hbm, 216, rfl⟩
abbrev main_call5_cst_0 : Ref sig .tc := ⟨.hbm, 217, rfl⟩
abbrev main_call5_v4 : Ref sig .tc := ⟨.hbm, 218, rfl⟩
abbrev main_call5_v5 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩

abbrev nD : Nat := 1
abbrev τ : Topo := Topo.v7x

variable {F : FTy → Type} [FloatOps F]
-- ==== Proof.PrepRuns.lean ====
/- The weight-layout call (`_w_in_prep`): what one execution of its body leaves in the two output buffers, in each of the
   three cases of the grid point. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Claim
public import Idealize.ShloMosaic.Lib.Ring
public import Idealize.ShloMosaic.Lib.VecWindow
public import Idealize.ShloMosaic.Lib.WordCmp

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The permuted columns are written at the points 16 to 23. -/
theorem cond1_iff : ∀ t : Fin cfg0.N, k0_cond1 (grid0.coords t) = 1#1 ↔ (16 ≤ t.val ∧ t.val ≤ 23) :=
  (by decide +kernel : ∀ t : Fin grid0.N, k0_cond1 (grid0.coords t) = 1#1 ↔ (16 ≤ t.val ∧ t.val ≤ 23))

/-- The other columns are copied at the remaining points. -/
theorem cond2_iff : ∀ t : Fin cfg0.N, k0_cond2 (grid0.coords t) = 1#1 ↔ ¬(16 ≤ t.val ∧ t.val ≤ 23) :=
  (by decide +kernel : ∀ t : Fin grid0.N, k0_cond2 (grid0.coords t) = 1#1 ↔ ¬(16 ≤ t.val ∧ t.val ≤ 23))

/-- The gate columns are written at the first point only. -/
theorem cond3_iff : ∀ t : Fin cfg0.N, k0_cond3 (grid0.coords t) = 1#1 ↔ t.val = 0 :=
  (by decide +kernel : ∀ t : Fin grid0.N, k0_cond3 (grid0.coords t) = 1#1 ↔ t.val = 0)

set_option maxHeartbeats 1000000 in
/-- The first point: the body copies its block of columns and writes the gate columns. -/
theorem body_first (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S2048x256 .bf16) (harg3 : arg3.IsWhole) (arg4 : Memref sig .tc .vmem S2048x128 .bf16) (harg4 : arg4.IsWhole)
    (hc1 : ¬k0_cond1 i = 1#1) (hc2 : k0_cond2 i = 1#1) (hc3 : k0_cond3 i = 1#1) (x0 : Vec F S256x2048 .f32) (x1 : Vec F S16x2048 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay2 x0) ∗ owns (c : Thread nD τ) arg4 fullShare (k0_pay3 x1)) -∗ K ⟨⟩))
      ⊢ wp frame (wpE (defs₀ (F := F)) Variants.none c none) E (cc0_w_in_prep i arg1 harg1 arg2 harg2 arg3 harg3 arg4 harg4) K := by
  simp only [cc0_w_in_prep_eq_skeleton]; unfold cc0_w_in_prep_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full, View.readAt_full, harg1.read_unread]
  iexists _; isplitr; swap; · iexact H3
  ipureintro
  rw [View.read_writes_full, View.readAt_full, harg2.read_unread]

set_option maxHeartbeats 1000000 in
/-- A point that copies: the body copies its block of columns and leaves the gate columns alone. -/
theorem body_copy (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S2048x256 .bf16) (harg3 : arg3.IsWhole) (arg4 : Memref sig .tc .vmem S2048x128 .bf16) (harg4 : arg4.IsWhole)
    (hc1 : ¬k0_cond1 i = 1#1) (hc2 : k0_cond2 i = 1#1) (hc3 : ¬k0_cond3 i = 1#1) (x0 : Vec F S256x2048 .f32)
    (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0)) -∗ K ⟨⟩))
      ⊢ wp frame (wpE (defs₀ (F := F)) Variants.none c none) E (cc0_w_in_prep i arg1 harg1 arg2 harg2 arg3 harg3 arg4 harg4) K := by
  simp only [cc0_w_in_prep_eq_skeleton]; unfold cc0_w_in_prep_skel
  unfold owns
  iintro ⟨⟨%f0, %hf0, H0⟩, ⟨%d2, %f2, -, H2⟩, Hk⟩
  obtain rfl := harg1.eq_unread hf0
  sl_exec (disch := first | sl_exact hc1 | sl_exact hc2 | sl_exact hc3)
  sl_step
  iapply Hk
  isplitl [H0]
  · iexists _; isplitr; · ipureintro; exact harg1.read_unread _
    iexact H0
  iexists _; isplitr; swap; · iexact H2
  ipureintro
  rw [View.read_writes_full, View.readAt_full, harg1.read_unread]

set_option maxHeartbeats 1000000 in
/-- A point that permutes: the body writes its block of columns permuted and leaves the gate columns alone. -/
theorem body_permute (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S2048x256 .bf16) (harg3 : arg3.IsWhole) (arg4 : Memref sig .tc .vmem S2048x128 .bf16) (harg4 : arg4.IsWhole)
    (hc1 : k0_cond1 i = 1#1) (hc2 : ¬k0_cond2 i = 1#1) (hc3 : ¬k0_cond3 i = 1#1) (x0 : Vec F S256x2048 .f32)
    (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay1 x0)) -∗ K ⟨⟩))
      ⊢ wp frame (wpE (defs₀ (F := F)) Variants.none c none) E (cc0_w_in_prep i arg1 harg1 arg2 harg2 arg3 harg3 arg4 harg4) K := by
  simp only [cc0_w_in_prep_eq_skeleton]; unfold cc0_w_in_prep_skel
  unfold owns
  iintro ⟨⟨%f0, %hf0, H0⟩, ⟨%d2, %f2, -, H2⟩, Hk⟩
  obtain rfl := harg1.eq_unread hf0
  sl_exec (disch := first | sl_exact hc1 | sl_exact hc2 | sl_exact hc3)
  sl_step
  iapply Hk
  isplitl [H0]
  · iexists _; isplitr; · ipureintro; exact harg1.read_unread _
    iexact H0
  iexists _; isplitr; swap; · iexact H2
  ipureintro
  rw [View.read_writes_full, View.readAt_full, harg1.read_unread]

end Cert.KernelIdeal.Prep

end
-- ==== Proof.PrepFrame.lean ====
/- The weight-layout call (`_w_in_prep`): its run. Every execution ends with the two result arrays at what the grid's
   points wrote into them and the argument unchanged. -/
module

public import proofs.«01_k».proof.Proof.PrepRuns
public import Idealize.ShloMosaic.Lib.Pipeline.TableIdle

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def p0 : Fin cfg0.N := ⟨0, by decide⟩

/-- The columns point `t` writes: its block of rows of the transposed matrix turned back, permuted at the points 16 to 23. -/
def mainAt (c : Dev nD) (t : Fin cfg0.N) : Vec F S2048x256 .bf16 :=
  if 16 ≤ t.val ∧ t.val ≤ 23 then k0_pay1 (iblk m c 0 t) else k0_pay2 (iblk m c 0 t)

/-- The gate columns, written at the first point. -/
def gates (c : Dev nD) : Vec F S2048x128 .bf16 := k0_pay3 (iblk m c 1 p0)

/-- What the region's buffers hold after each point: the inputs their blocks, the first output `mainAt`, the second the gate
    columns at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => mainAt m c t
    | ⟨3, _⟩ => gates m c
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

/-- What the first input's buffer holds after a point. -/
theorem after0_0 (c : Dev nD) (t : Fin cfg0.N) : (dats m 0 c).after 0 t = iblk m c 0 t := by dsimp only [dats]
/-- What the second input's buffer holds after a point. -/
theorem after0_1 (c : Dev nD) (t : Fin cfg0.N) : (dats m 0 c).after 1 t = iblk m c 1 t := by dsimp only [dats]
/-- What the first output's buffer holds after a point. -/
theorem after0_2 (c : Dev nD) (t : Fin cfg0.N) : (dats m 0 c).after 2 t = mainAt m c t := by dsimp only [dats]
/-- What the second output's buffer holds after a point. -/
theorem after0_3 (c : Dev nD) (t : Fin cfg0.N) : (dats m 0 c).after 3 t = gates m c := by dsimp only [dats]

/-- The first input's buffer holds its block when the body runs. -/
theorem before0_0 (c : Dev nD) (t : Fin cfg0.N) (d) : (dats m 0 c).before 0 t d = iblk m c 0 t :=
  before0_0_of m (dats m 0 c) (A_eq m c 0) (after0_0 m c) t d
/-- The second input's buffer holds its block when the body runs. -/
theorem before0_1 (c : Dev nD) (t : Fin cfg0.N) (d) : (dats m 0 c).before 1 t d = iblk m c 1 t :=
  before0_1_of m (dats m 0 c) (A_eq m c 1) (after0_1 m c) t d

/-- Only at the first point (and past the last) does the second output's buffer hold nothing the body stored. -/
theorem fresh3 (n : ℕ) (h : n ≤ cfg0.N) : cfg0.fresh 3 n = decide (n % 32 = 0) :=
  Pipeline.Cfg.fresh_tab cfg0 3 (fun n => decide (n % 32 = 0)) rfl
    (by decide +kernel : ∀ t : Fin grid0.N, decide ((t.val + 1) % 32 = 0)
      = ((cfg0.win 3).flush t || (cfg0.idle 3 (grid0.coords t) && decide (t.val % 32 = 0)))) n h

/-- After the first point the second output's buffer holds the gate columns when the body runs. -/
theorem before0_3 (c : Dev nD) (t : Fin cfg0.N) (ht : t.val ≠ 0) (d) : (dats m 0 c).before 3 t d = gates m c := by
  have hN : t.val < 32 := lt_of_lt_of_eq t.isLt (show cfg0.N = 32 from N_0)
  rw [(dats m 0 c).before_out_traj 3 rfl (fun _ _ => rfl) (fun t _ _ _ => by rw [after0_3, after0_3]) t.val t rfl d,
    fresh3 t.val (Nat.le_of_lt t.isLt), if_neg (by simp only [decide_eq_true_eq]; omega), after0_3]

/-- The buffers the body is called with at point `t`. -/
abbrev ms0_0 (t : Fin cfg0.N) : Memref sig .tc .vmem S256x2048 .f32 := win0_0.stage (cfg0.slots t 0)
abbrev ms0_1 (t : Fin cfg0.N) : Memref sig .tc .vmem S16x2048 .f32 := win0_1.stage (cfg0.slots t 1)
abbrev ms0_2 (t : Fin cfg0.N) : Memref sig .tc .vmem S2048x256 .bf16 := win0_2.stage (cfg0.slots t 2)
abbrev ms0_3 (t : Fin cfg0.N) : Memref sig .tc .vmem S2048x128 .bf16 := win0_3.stage (cfg0.slots t 3)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The first output is written at every point. -/
theorem live2 : ∀ t : Fin cfg0.N, cfg0.idle 2 (grid0.coords t) = false :=
  (by decide +kernel : ∀ t : Fin grid0.N, cfg0.idle 2 (grid0.coords t) = false)

/-- The second output's buffer at the gate columns is what a point hands back, the body having stored there or not. -/
theorem leaves3 (c : Dev nD) (t : Fin cfg0.N) (h : t.val = 0 → cfg0.idle 3 (grid0.coords t) = false) :
    owns (c : Thread nD τ) (ms0_3 t) fullShare (gates m c) ⊢ ((dats m 0 c).leavesExact 3 t : sProp 𝕄) := by
  by_cases h0 : t.val = 0
  · unfold Dat.leavesExact; rw [h h0]; exact BIBase.Entails.of_eq (by rw [after0_3])
  · unfold Dat.leavesExact
    cases cfg0.idle 3 (cfg0.grid.coords t)
    · exact BIBase.Entails.of_eq (by rw [after0_3])
    · cases (cfg0.win 3).flush t
      · dsimp only
        iintro H
        iexists gates m c
        rw [before0_3 m c t h0]
        iexact H
      · exact BIBase.Entails.of_eq (by rw [after0_3])

/-- At the first point the second output is stored. -/
theorem live3 : ∀ t : Fin cfg0.N, t.val = 0 → cfg0.idle 3 (grid0.coords t) = false :=
  (by decide +kernel : ∀ t : Fin grid0.N, t.val = 0 → cfg0.idle 3 (grid0.coords t) = false)

set_option maxHeartbeats 1600000 in
/-- The body at any point: from the windows' buffers as the point finds them to the buffers at what `dats` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from by
      unfold Dat.leavesExact; rw [live2 t], after0_2]
  by_cases h0 : t.val = 0
  · obtain rfl : t = p0 := Fin.ext h0
    rw [show mainAt m c p0 = k0_pay2 (iblk m c 0 p0) from if_neg (by rw [h0]; omega)]
    iintro ⟨HΦ, Ho, ⟨%d0, H0⟩, ⟨%d1, H1⟩, ⟨%d2, H2⟩, ⟨%d3, H3⟩⟩
    iapply (body_first c (grid0.coords p0) _ _ _ _ _ _ _ _ (fun h => by have := (cond1_iff p0).mp h; omega)
      ((cond2_iff p0).mpr (by rw [h0]; omega)) ((cond3_iff p0).mpr h0) (iblk m c 0 p0) (iblk m c 1 p0) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves3 m c p0 (live3 p0))
    iexact H3
  · simp only [before0_3 m c t h0]
    by_cases h1 : 16 ≤ t.val ∧ t.val ≤ 23
    · rw [show mainAt m c t = k0_pay1 (iblk m c 0 t) from if_pos h1]
      iintro ⟨HΦ, Ho, ⟨%d0, H0⟩, ⟨%d1, H1⟩, ⟨%d2, H2⟩, ⟨%d3, H3⟩⟩
      iapply (body_permute c (grid0.coords t) _ _ _ _ _ _ _ _ ((cond1_iff t).mpr h1) (fun h => (cond2_iff t).mp h h1)
        (fun h => h0 ((cond3_iff t).mp h)) (iblk m c 0 t) Set.univ _)
      isplitl [H0]; · iexact H0
      isplitl [H2]; · iexists _; iexact H2
      iintro ⟨H0, H2⟩
      isplitl [HΦ]; · iexact HΦ
      isplitl [Ho]; · iexact Ho
      isplitl [H0]; · iexact H0
      isplitl [H1]; · iexact H1
      isplitl [H2]; · iexact H2
      iapply (leaves3 m c t (live3 t))
      iexact H3
    · rw [show mainAt m c t = k0_pay2 (iblk m c 0 t) from if_neg h1]
      iintro ⟨HΦ, Ho, ⟨%d0, H0⟩, ⟨%d1, H1⟩, ⟨%d2, H2⟩, ⟨%d3, H3⟩⟩
      iapply (body_copy c (grid0.coords t) _ _ _ _ _ _ _ _ (fun h => h1 ((cond1_iff t).mp h)) ((cond2_iff t).mpr h1)
        (fun h => h0 ((cond3_iff t).mp h)) (iblk m c 0 t) Set.univ _)
      isplitl [H0]; · iexact H0
      isplitl [H2]; · iexists _; iexact H2
      iintro ⟨H0, H2⟩
      isplitl [HΦ]; · iexact HΦ
      isplitl [Ho]; · iexact Ho
      isplitl [H0]; · iexact H0
      isplitl [H1]; · iexact H1
      isplitl [H2]; · iexact H2
      iapply (leaves3 m c t (live3 t))
      iexact H3

/-- The pipeline's body at a point is the printed body at that point's buffers. -/
theorem defs₀_row (t : Fin cfg0.N) :
    defs₀ (F := F) .tc cfg0.body (cfg0.bodyArgs t (cfg0.slots t)) = bodyAt0 t := by
  unfold defs₀; rw [Defs.onTc_tc]

/-- The body does at every point what `dats` says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every execution ends with each array of the region at what `dats` computes, every other buffer as the region
    found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.KernelIdeal.Prep

end
-- ==== Proof.PrepPayload.lean ====
/- The weight-layout call (`_w_in_prep`): what the body's three stored values are, element by element. -/
module

public import proofs.«01_k».proof.Proof.Gen.KernelIdeal.Skeleton
public import Idealize.ShloMosaic.Lib.Pointwise

@[expose] public section

set_option maxRecDepth 16384

noncomputable section

namespace Cert.KernelIdeal.Prep

open Cert.KernelIdeal Cert.KernelIdeal.Gen Idealize.ShloMosaic Idealize.ShloMosaic.TcCoe Idealize.SL.Sem

/-- Where output column `j` of a permuted block of 256 columns comes from: the even columns first, then the odd ones. -/
def src (j : Fin 256) : Fin 256 := ⟨if j.val < 128 then 2 * j.val else 2 * (j.val - 128) + 1, by split <;> omega⟩

/-- The column word the body computes for output column `j` is `src j`. -/
theorem word_src : ∀ j : Fin 256, Scalar.select (IntOp.cmpi .slt (BitVec.ofNat 32 j.val) 128#32)
    (IntOp.muli (2#32) (BitVec.ofNat 32 j.val))
    (IntOp.addi (IntOp.muli (2#32) (IntOp.subi (BitVec.ofNat 32 j.val) 128#32)) 1#32) = BitVec.ofNat 32 (src j).val := by
  decide +kernel

/-- Two column numbers' words are equal exactly when the numbers are. -/
theorem word_inj (k l : Fin 256) : BitVec.ofNat 32 k.val = BitVec.ofNat 32 l.val ↔ k = l := by
  constructor
  · intro h
    have e := congrArg BitVec.toNat h
    rw [BitVec.toNat_ofNat, BitVec.toNat_ofNat, Nat.mod_eq_of_lt (by omega), Nat.mod_eq_of_lt (by omega)] at e
    exact Fin.ext e
  · rintro rfl; rfl

/-- The matrix the body multiplies by has a one where the row is `src` of the column and zeros elsewhere. -/
theorem oneHot (k l : Fin 256) :
    (FloatOps.sitofp .f32 (BitVec.setWidth 32 (IntOp.cmpi .eq (BitVec.ofNat 32 k.val) (BitVec.ofNat 32 l.val))) : Ideal .f32)
      = if k = l then (1 : EReal) else 0 := by
  show ((((BitVec.setWidth 32 (IntOp.cmpi .eq (BitVec.ofNat 32 k.val) (BitVec.ofNat 32 l.val))).toInt : ℤ) : ℝ) : EReal) = _
  by_cases h : k = l
  · subst h
    rw [if_pos rfl, show IntOp.cmpi .eq (BitVec.ofNat 32 k.val) (BitVec.ofNat 32 k.val) = 1#1 from by simp [IntOp.cmpi]]
    norm_num
  · have h' : BitVec.ofNat 32 k.val ≠ BitVec.ofNat 32 l.val := fun e => h ((word_inj k l).mp e)
    rw [if_neg h, show IntOp.cmpi .eq (BitVec.ofNat 32 k.val) (BitVec.ofNat 32 l.val) = 0#1 from by
      show BitVec.ofBool (BitVec.ofNat 32 k.val == BitVec.ofNat 32 l.val) = 0#1
      rw [beq_false_of_ne h']; rfl]
    norm_num

/-- A copied block: the stored value is the loaded one with rows and columns exchanged. -/
theorem pay2_at (x : FVec Ideal S256x2048 .f32) (i : Fin 2048) (j : Fin 256) : k0_pay2 (F := Ideal) x (ix2 i j) = x (ix2 j i) := by
  pointwise [k0_pay2]

/-- The gate columns: the 16 loaded rows as columns, then zeros. -/
theorem pay3_at (x : FVec Ideal S16x2048 .f32) (i : Fin 2048) (j : Fin 128) :
    k0_pay3 (F := Ideal) x (ix2 i j) = if h : j.val < 16 then x (ix2 ⟨j.val, h⟩ i) else 0 := by
  pointwise [k0_pay3]

/-- A permuted block: the product with the one-hot matrix picks the column `src j`. -/
theorem pay1_at (x : FVec Ideal S256x2048 .f32) (i : Fin 2048) (j : Fin 256) :
    k0_pay1 (F := Ideal) x (ix2 i j) = x (ix2 (src j) i) := by
  pointwise [k0_pay1]
  rw [word_src j, Finset.sum_eq_single (src j)]
  · rw [oneHot, if_pos rfl]; exact mul_one _
  · intro k _ hk
    rw [oneHot, if_neg hk]; exact mul_zero _
  · intro h; exact absurd (Finset.mem_univ _) h

end Cert.KernelIdeal.Prep

end
-- ==== Proof.PrepRef.lean ====
/- The weight-layout call (`_w_in_prep`): what its reference computes, element by element. -/
module

public import proofs.«01_k».proof.Proof.Gen.ReferenceIdeal.Run
public import Idealize.ShloMosaic.Lib.Pointwise

@[expose] public section

set_option maxRecDepth 16384

noncomputable section

namespace Cert.ReferenceIdeal.Prep

open Cert.ReferenceIdeal Cert.ReferenceIdeal.Gen Idealize.ShloMosaic Idealize.ShloMosaic.TcCoe Idealize.SL.Sem

/-- The weights in the narrow type, as one matrix. -/
def rounded (X : FVec Ideal S1x2048x8208 .f32) : FVec Ideal S2048x8208 .bf16 :=
  truncf .bf16 (shapeCast _ X shapeCasts_S1x2048x8208_S2048x8208) bitsLt_bf16_f32

/-- Within each head of 256 columns: the even columns first, then the odd ones. -/
def pairs (x : FVec Ideal S2048x1024 .bf16) : FVec Ideal S2048x1024 .bf16 :=
  shapeCast _ (transpose S2048x4x2x128 [0, 1, 3, 2] (shapeCast _ x shapeCasts_S2048x1024_S2048x4x128x2)
    transposes_S2048x4x128x2_S2048x4x2x128_0_1_3_2) shapeCasts_S2048x4x2x128_S2048x1024

/-- A run of 1024 columns of the weights. -/
def cols (X : FVec Ideal S1x2048x8208 .f32) (o : Nat) (h : Shape.Slices S2048x8208 ![0, o] S2048x1024) : FVec Ideal S2048x1024 .bf16 :=
  extractStridedSlice S2048x1024 ![0, o] (rounded X) h

/-- The first 3072 columns of the weights. -/
def cols3 (X : FVec Ideal S1x2048x8208 .f32) : FVec Ideal S2048x3072 .bf16 :=
  extractStridedSlice S2048x3072 ![0, 0] (rounded X) slices_S2048x8208_S2048x3072_0_0

/-- The reference's main columns. -/
def mainRef (X : FVec Ideal S1x2048x8208 .f32) : FVec Ideal S2048x8192 .bf16 :=
  concatenate S2048x8192 1 [⟨S2048x3072, cols3 X⟩, ⟨S2048x1024, cols X 3072 slices_S2048x8208_S2048x1024_0_3072⟩,
    ⟨S2048x1024, pairs (cols X 4112 slices_S2048x8208_S2048x1024_0_4112)⟩,
    ⟨S2048x1024, pairs (cols X 5136 slices_S2048x8208_S2048x1024_0_5136)⟩,
    ⟨S2048x1024, cols X 6160 slices_S2048x8208_S2048x1024_0_6160⟩, ⟨S2048x1024, cols X 7184 slices_S2048x8208_S2048x1024_0_7184⟩]
    concatenates_S2048x3072_S2048x1024_S2048x1024_S2048x1024_S2048x1024_S2048x1024_S2048x8192_d1

/-- The reference's gate columns. -/
def gatesRef (X : FVec Ideal S1x2048x8208 .f32) : FVec Ideal S2048x128 .bf16 :=
  pad S2048x128 ![0, 0] ![0, 112] ![0, 0] (concatenate S2048x16 1 [⟨S2048x8, (extractStridedSlice S2048x8 ![0, 4096] (rounded X) slices_S2048x8208_S2048x8_0_4096)⟩, ⟨S2048x8, (extractStridedSlice S2048x8 ![0, 4104] (rounded X) slices_S2048x8208_S2048x8_0_4104)⟩] concatenates_S2048x8_S2048x8_S2048x16_d1) (sitofp .bf16 (constantI S_ 32 0#32)) pads_S2048x16_S2048x128_000_01120 h_S_

/-- Rounding is the identity, so the matrix is the array. -/
theorem rounded_at (X : FVec Ideal S1x2048x8208 .f32) (i : Fin 2048) (j : Fin 8208) : rounded X (ix2 i j) = X (ix3 0 i j) := by
  pointwise [rounded]

theorem cols_at (X : FVec Ideal S1x2048x8208 .f32) (o : Nat) (h) (ho : o + 1024 ≤ 8208) (i : Fin 2048) (j : Fin 1024) :
    cols X o h (ix2 i j) = X (ix3 0 i ⟨o + j.val, by omega⟩) := by
  refine Eq.trans ?_ (rounded_at X i ⟨o + j.val, by omega⟩)
  pointwise [cols]

theorem cols3_at (X : FVec Ideal S1x2048x8208 .f32) (i : Fin 2048) (j : Fin 3072) :
    cols3 X (ix2 i j) = X (ix3 0 i ⟨j.val, by omega⟩) := by
  refine Eq.trans ?_ (rounded_at X i ⟨j.val, by omega⟩)
  pointwise [cols3]

theorem pairs_at (x : FVec Ideal S2048x1024 .bf16) (i : Fin 2048) (j : Fin 1024) :
    pairs x (ix2 i j) = x (ix2 i ⟨j.val / 256 * 256 + j.val % 128 * 2 + j.val / 128 % 2, by omega⟩) := by
  pointwise [pairs]

/-- The main columns piece by piece. -/
theorem mainRef_pieces (X : FVec Ideal S1x2048x8208 .f32) (i : Fin 2048) (j : Fin 8192) :
    mainRef X (ix2 i j) = if h : j.val < 3072 then cols3 X (ix2 i ⟨j.val, h⟩)
      else if h1 : j.val - 3072 < 1024 then cols X 3072 slices_S2048x8208_S2048x1024_0_3072 (ix2 i ⟨j.val - 3072, h1⟩)
      else if h2 : j.val - 3072 - 1024 < 1024 then
        pairs (cols X 4112 slices_S2048x8208_S2048x1024_0_4112) (ix2 i ⟨j.val - 3072 - 1024, h2⟩)
      else if h3 : j.val - 3072 - 1024 - 1024 < 1024 then
        pairs (cols X 5136 slices_S2048x8208_S2048x1024_0_5136) (ix2 i ⟨j.val - 3072 - 1024 - 1024, h3⟩)
      else if h4 : j.val - 3072 - 1024 - 1024 - 1024 < 1024 then
        cols X 6160 slices_S2048x8208_S2048x1024_0_6160 (ix2 i ⟨j.val - 3072 - 1024 - 1024 - 1024, h4⟩)
      else cols X 7184 slices_S2048x8208_S2048x1024_0_7184 (ix2 i ⟨j.val - 3072 - 1024 - 1024 - 1024 - 1024, by omega⟩) := by
  pointwise [mainRef]

/-- The weight column that the main column `j` holds: the gates' 16 columns (4096 on) are left out, and in the 2048
    columns after them the columns of each head are taken even ones first. -/
def mainCol (j : Nat) : Nat :=
  if j < 4096 then j else if j < 6144 then j / 256 * 256 + 16 + j % 128 * 2 + j / 128 % 2 else j + 16

theorem mainCol_lt {j : Nat} (h : j < 8192) : mainCol j < 8208 := by
  unfold mainCol; split_ifs <;> omega

/-- The main columns: each is one column of the weights. -/
theorem mainRef_at (X : FVec Ideal S1x2048x8208 .f32) (i : Fin 2048) (j : Fin 8192) :
    mainRef X (ix2 i j) = X (ix3 0 i ⟨mainCol j.val, mainCol_lt j.isLt⟩) := by
  rw [mainRef_pieces]
  have K : ∀ (n : Nat) (h : n < 8208), mainCol j.val = n → X (ix3 0 i ⟨n, h⟩) = X (ix3 0 i ⟨mainCol j.val, mainCol_lt j.isLt⟩) := by
    rintro _ _ rfl; rfl
  split_ifs with h h1 h2 h3 h4
  · rw [cols3_at]; exact K _ _ (by unfold mainCol; dsimp only; split_ifs <;> omega)
  · rw [cols_at _ _ _ (by omega)]; exact K _ _ (by unfold mainCol; dsimp only; split_ifs <;> omega)
  · rw [pairs_at, cols_at _ _ _ (by omega)]; exact K _ _ (by unfold mainCol; dsimp only; split_ifs <;> omega)
  · rw [pairs_at, cols_at _ _ _ (by omega)]; exact K _ _ (by unfold mainCol; dsimp only; split_ifs <;> omega)
  · rw [cols_at _ _ _ (by omega)]; exact K _ _ (by unfold mainCol; dsimp only; split_ifs <;> omega)
  · rw [cols_at _ _ _ (by omega)]; exact K _ _ (by unfold mainCol; dsimp only; split_ifs <;> omega)

/-- The gate columns: 16 columns of the weights, then zeros. -/
theorem gatesRef_at (X : FVec Ideal S1x2048x8208 .f32) (i : Fin 2048) (j : Fin 128) :
    gatesRef X (ix2 i j) = if h : j.val < 16 then X (ix3 0 i ⟨4096 + j.val, by omega⟩) else 0 := by
  pointwise [gatesRef, rounded]
  by_cases h : j.val < 16
  · rw [dif_pos h, dif_pos h]
    by_cases h1 : j.val < 8
    · rw [dif_pos h1]
    · rw [dif_neg h1]; exact congrArg (fun k => X (ix3 0 i k)) (Fin.ext (by dsimp only; omega))
  · rw [dif_neg h, dif_neg h]
    show (((0#32 : BitVec 32).toInt : ℝ) : EReal) = 0
    norm_num

end Cert.ReferenceIdeal.Prep

end
-- ==== Proof.PrepValue.lean ====
/- The weight-layout call (`_w_in_prep`): its two result arrays are the reference's, element by element. -/
module

public import proofs.«01_k».proof.Proof.PrepFrame
public import proofs.«01_k».proof.Proof.PrepPayload
public import proofs.«01_k».proof.Proof.PrepRef
public import Idealize.ShloMosaic.Lib.Pipeline.ValueKit

@[expose] public section

set_option maxRecDepth 16384

noncomputable section

namespace Cert.KernelIdeal.Prep

open Cert.KernelIdeal Cert.KernelIdeal.Gen Idealize.ShloMosaic Idealize.ShloMosaic.TcCoe Idealize.SL.Sem
open Idealize.ShloMosaic.Pipeline (Dat)
open Cert.ReferenceIdeal.Prep (mainRef gatesRef mainCol mainCol_lt mainRef_at gatesRef_at)

variable (m : (ℓ : Loc nD τ sig) → Buf (Elt Ideal) ℓ)

/-- The blocks' places: the first input by its element offset, the others by their block number. -/
theorem idx : ∀ t : Fin cfg0.N, win0_0.index t = ![256 * t.val + (if 16 ≤ t.val then 16 else 0), 0] ∧ win0_1.index t = ![256, 0]
    ∧ win0_2.index t = ![0, t.val] ∧ win0_3.index t = ![0, 0] :=
  (by decide +kernel : ∀ t : Fin grid0.N, _)

/-- The argument. -/
abbrev X (c : Dev nD) : FVec Ideal S1x2048x8208 .f32 := m ((c.tc : Thread nD τ).loc main_arg0)

/-- The array the region reads: the argument with rows and columns exchanged. -/
theorem V_v1 (c : Dev nD) (k : Fin 8208) (i : Fin 2048) : (V m c main_v1 : FVec Ideal S8208x2048 .f32) (ix2 k i) = X m c (ix3 0 i k) := by
  entry_read
  show transpose S8208x2048 [1, 0] (shapeCast S2048x8208 (X m c) shapeCasts_S1x2048x8208_S2048x8208)
    transposes_S2048x8208_S8208x2048_1_0 (ix2 k i) = _
  pointwise

/-- The first input's block at point `t`: 256 columns of the argument from `256 t`, or from `256 t + 16` past the gates. -/
theorem iblk0_at (c : Dev nD) (t : Fin cfg0.N) (k : Fin 256) (i : Fin 2048) (h) :
    (iblk m c 0 t : FVec Ideal S256x2048 .f32) (ix2 k i) = X m c (ix3 0 i ⟨256 * t.val + (if 16 ≤ t.val then 16 else 0) + k.val, h⟩) := by
  rw [← V_v1]
  blk_point [iblk, V, idx t]
  · exact (ValueKit.rect_emb_unit_val (win0_0.index t) S256x2048.size (hinbE0_0 _) (ix2 k i) 0).trans (congrArg (fun v : Fin 2 → Nat => v 0 + k.val) (idx t).1)
  · exact (ValueKit.rect_emb_unit_val (win0_0.index t) S256x2048.size (hinbE0_0 _) (ix2 k i) 1).trans
      ((congrArg (fun v : Fin 2 → Nat => v 1 + i.val) (idx t).1).trans (Nat.zero_add _))

/-- The second input's block: the 16 gate columns. -/
theorem iblk1_at (c : Dev nD) (t : Fin cfg0.N) (k : Fin 16) (i : Fin 2048) :
    (iblk m c 1 t : FVec Ideal S16x2048 .f32) (ix2 k i) = X m c (ix3 0 i ⟨4096 + k.val, by omega⟩) := by
  rw [← V_v1]
  blk_point [iblk, V, idx t]

/-- What point `t` writes is the reference's block of columns. -/
theorem mainAt_at (c : Dev nD) (t : Fin cfg0.N) (i : Fin 2048) (j : Fin 256) (h) :
    (mainAt m c t : FVec Ideal S2048x256 .bf16) (ix2 i j) = mainRef (X m c) (ix2 i ⟨256 * t.val + j.val, h⟩) := by
  have hs : (src j).val = if j.val < 128 then 2 * j.val else 2 * (j.val - 128) + 1 := rfl
  have K : ∀ (a b : Fin 8208), a.val = b.val → X m c (ix3 0 i a) = X m c (ix3 0 i b) := fun a b e => by rw [Fin.ext e]
  have ht : t.val < 32 := t.isLt
  rw [mainRef_at]
  unfold mainAt
  split_ifs with h1
  · rw [pay1_at, iblk0_at m c t _ _ (by split_ifs <;> omega)]
    refine K _ _ ?_
    dsimp only; unfold mainCol; rw [hs]; split_ifs <;> omega
  · rw [pay2_at, iblk0_at m c t _ _ (by split_ifs <;> omega)]
    refine K _ _ ?_
    dsimp only; unfold mainCol; split_ifs <;> omega

/-- The gate columns are the reference's. -/
theorem gates_at (c : Dev nD) (i : Fin 2048) (j : Fin 128) :
    (gates m c : FVec Ideal S2048x128 .bf16) (ix2 i j) = gatesRef (X m c) (ix2 i j) := by
  rw [gatesRef_at]
  unfold gates
  rw [pay3_at]
  split_ifs with h
  · rw [iblk1_at]
  · rfl

/-- The main result array. -/
theorem final2 (c : Dev nD) : (dats m 0 c).arrAt 2 (cfgs 0).N = mainRef (X m c) := by
  refine (dats m 0 c).arrAt_eq_of_covers 2 _ (by decide +kernel) fun t _ y => ?_
  blk_simp
  rw [after0_2]
  obtain ⟨i, j, rfl⟩ : ∃ (i : Fin 2048) (j : Fin 256), y = ix2 i j := ⟨y 0, y 1, by ext a; fin_cases a <;> rfl⟩
  have ht : t.val < 32 := t.isLt
  refine (mainAt_at m c t i j (by omega)).trans (congrArg (mainRef (X m c)) ?_)
  blk_ext [idx t]

/-- The gates' result array. -/
theorem final3 (c : Dev nD) : (dats m 0 c).arrAt 3 (cfgs 0).N = gatesRef (X m c) := by
  refine (dats m 0 c).arrAt_eq_of_covers 3 _ (by decide +kernel) fun t _ y => ?_
  blk_simp
  rw [after0_3]
  obtain ⟨i, j, rfl⟩ : ∃ (i : Fin 2048) (j : Fin 128), y = ix2 i j := ⟨y 0, y 1, by ext a; fin_cases a <;> rfl⟩
  refine (gates_at m c i j).trans (congrArg (gatesRef (X m c)) ?_)
  blk_ext [idx t]

end Cert.KernelIdeal.Prep

end
-- ==== Proof.PrepClaim.lean ====
module

public import proofs.«01_k».proof.Defs
public import proofs.«01_k».proof.Proof.PrepValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The run of the reference: its results are the main columns and the gate columns of its argument. -/
theorem prep_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v16)
          = Cert.ReferenceIdeal.Prep.mainRef (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v18)
          = Cert.ReferenceIdeal.Prep.gatesRef (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  Cert.ReferenceIdeal.Value.run m ρ

/-- The preparation of the input projection's weights: over the extended reals the kernel and its reference compute the same function. -/
theorem prep_algebraic : Cert.algebraic_KernelIdeal_ReferenceIdeal := by
  pair_intro
  · run_from Cert.KernelIdeal.Prep.run_main m g
  · run_from prep_reference m' g'
    · exact (Cert.KernelIdeal.Prep.final2 m c).symm
    · exact (Cert.KernelIdeal.Prep.final3 m c).symm

end Cert.Proof

end
-- ==== Proof.FfnRef.lean ====
/- The feed-forward call (`_ffn`): what its reference computes, element by element. -/
module

public import proofs.«01_k».proof.Proof.Gen.Reference2Ideal.Run
public import Idealize.ShloMosaic.Lib.Pipeline.ValueKit

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The reference's normalised rows, under the gain `g`. -/
def normed (X : FVec Ideal S4x2048x2048 .f32) (g : FVec Ideal S2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))

/-- A gain stored as one row. -/
def gain (G : FVec Ideal S1x2048 .f32) : FVec Ideal S2048 .f32 := shapeCast S2048 G shapeCasts_S1x2048_S2048

/-- Rows times one of the two up-projections. -/
def wide (h : FVec Ideal S4x2048x2048 .f32) (W : FVec Ideal S1x2048x5632 .f32) : FVec Ideal S4x2048x5632 .f32 :=
  Host.dotGeneral dot_S4x2048x2048_S2048x5632_S4x2048x5632_2_0_01_1_n_n none h (shapeCast S2048x5632 W shapeCasts_S1x2048x5632_S2048x5632)

/-- The gated hidden units. -/
def hidden (a u : FVec Ideal S4x2048x5632 .f32) : FVec Ideal S4x2048x5632 .f32 :=
  mulf (mulf a (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf a))))) u

/-- The residual stream: the hidden units times the down-projection, on top of the rows. -/
def stream (X : FVec Ideal S4x2048x2048 .f32) (hid : FVec Ideal S4x2048x5632 .f32) (Wd : FVec Ideal S1x5632x2048 .f32) : FVec Ideal S4x2048x2048 .f32 :=
  addf X (Host.dotGeneral dot_S4x2048x5632_S5632x2048_S4x2048x2048_2_0_01_1_n_n none hid (shapeCast S5632x2048 Wd shapeCasts_S1x5632x2048_S5632x2048))

/-- The hidden units of the reference. -/
def hid (X : FVec Ideal S4x2048x2048 .f32) (G : FVec Ideal S1x2048 .f32) (Wg Wu : FVec Ideal S1x2048x5632 .f32) : FVec Ideal S4x2048x5632 .f32 :=
  hidden (wide (normed X (gain G)) Wg) (wide (normed X (gain G)) Wu)

/-- The reference's result. -/
def ffnRef (X : FVec Ideal S4x2048x2048 .f32) (G : FVec Ideal S1x2048 .f32) (Wg Wu : FVec Ideal S1x2048x5632 .f32) (Wd : FVec Ideal S1x5632x2048 .f32)
    (gf : FVec Ideal S2048 .f32) : FVec Ideal S8192x2048 .f32 :=
  shapeCast S8192x2048 (normed (stream X (hid X G Wg Wu) Wd) gf) shapeCasts_S4x2048x2048_S8192x2048

/-- The array the reference's run states is this one. -/
theorem res_eq (m : (ℓ : Loc nD τ sig) → Buf (Elt Ideal) ℓ) (c : Dev nD) : Value.res_out0 (F := Ideal) m c
    = ffnRef (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

theorem normed_at (X : FVec Ideal S4x2048x2048 .f32) (g : FVec Ideal S2048 .f32) (b : Fin 4) (r : Fin 2048) (j : Fin 2048) :
    normed X g (ix3 b r j) = X (ix3 b r j) * Ideal.rsqrt (Ideal.div (∑ k : Fin 2048, X (ix3 b r k) * X (ix3 b r k)) (Scalar.ofBits .f32 0x45000000#32 : Ideal .f32)
      + (Scalar.ofBits .f32 0x358637BD#32 : Ideal .f32)) * g (ix1 j) := by
  pointwise [normed]

theorem gain_at (G : FVec Ideal S1x2048 .f32) (j : Fin 2048) : gain G (ix1 j) = G (ix2 0 j) := by
  pointwise [gain]

theorem wide_at (h : FVec Ideal S4x2048x2048 .f32) (W : FVec Ideal S1x2048x5632 .f32) (b : Fin 4) (r : Fin 2048) (f : Fin 5632) :
    wide h W (ix3 b r f) = ∑ k : Fin 2048, h (ix3 b r k) * W (ix3 0 k f) := by
  pointwise [wide]

/-- One hidden unit out of its gate `a` and its value `u`. -/
def unit (a u : EReal) : EReal := a * Ideal.logistic a * u

theorem hidden_at (a u : FVec Ideal S4x2048x5632 .f32) (b : Fin 4) (r : Fin 2048) (f : Fin 5632) :
    hidden a u (ix3 b r f) = unit (a (ix3 b r f)) (u (ix3 b r f)) := by
  pointwise [hidden]
  rfl

theorem hid_at (X : FVec Ideal S4x2048x2048 .f32) (G : FVec Ideal S1x2048 .f32) (Wg Wu : FVec Ideal S1x2048x5632 .f32) (b : Fin 4) (r : Fin 2048) (f : Fin 5632) :
    hid X G Wg Wu (ix3 b r f) = unit (∑ k : Fin 2048, normed X (gain G) (ix3 b r k) * Wg (ix3 0 k f)) (∑ k : Fin 2048, normed X (gain G) (ix3 b r k) * Wu (ix3 0 k f)) := by
  rw [hid, hidden_at, wide_at, wide_at]

theorem stream_at (X : FVec Ideal S4x2048x2048 .f32) (hid : FVec Ideal S4x2048x5632 .f32) (Wd : FVec Ideal S1x5632x2048 .f32) (b : Fin 4) (r : Fin 2048) (j : Fin 2048) :
    stream X hid Wd (ix3 b r j) = X (ix3 b r j) + ∑ f : Fin 5632, hid (ix3 b r f) * Wd (ix3 0 f j) := by
  pointwise [stream]

theorem ffnRef_at (X : FVec Ideal S4x2048x2048 .f32) (G : FVec Ideal S1x2048 .f32) (Wg Wu : FVec Ideal S1x2048x5632 .f32) (Wd : FVec Ideal S1x5632x2048 .f32)
    (gf : FVec Ideal S2048 .f32) (i : Fin 8192) (j : Fin 2048) :
    ffnRef X G Wg Wu Wd gf (ix2 i j) = normed (stream X (hid X G Wg Wu) Wd) gf (ix3 ⟨i.val / 2048, by omega⟩ ⟨i.val % 2048, by omega⟩ j) := by
  pointwise [ffnRef]

end Cert.Reference2Ideal.Ffn

end
-- ==== Proof.FfnValue.lean ====
/- The feed-forward call (`_ffn`): the array its kernel leaves is the reference's result. -/
module

public import proofs.«01_k».proof.Proof.FfnRef
public import proofs.«01_k».proof.Proof.Gen.Kernel2Ideal.Value

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Ffn (normed normed_at gain gain_at hid hid_at unit stream stream_at ffnRef ffnRef_at)

variable (m : (ℓ : Loc nD τ sig) → Buf (Elt Ideal) ℓ)

/-- The block numbers at a grid point: the rows' block is `t / 22`, the hidden units' block `t % 22`. -/
theorem idx : ∀ t : Fin cfg0.N, win0_0.index t = ![t.val / 22, 0] ∧ win0_1.index t = ![0, 0] ∧ win0_2.index t = ![0, t.val % 22]
    ∧ win0_3.index t = ![0, t.val % 22] ∧ win0_4.index t = ![t.val % 22, 0] ∧ win0_5.index t = ![0, 0] ∧ win0_6.index t = ![t.val / 22, 0] :=
  (by decide +kernel : ∀ t : Fin grid0.N, win0_0.index t = ![t.val / 22, 0] ∧ win0_1.index t = ![0, 0] ∧ win0_2.index t = ![0, t.val % 22]
    ∧ win0_3.index t = ![0, t.val % 22] ∧ win0_4.index t = ![t.val % 22, 0] ∧ win0_5.index t = ![0, 0] ∧ win0_6.index t = ![t.val / 22, 0])

abbrev X (c : Dev nD) : FVec Ideal S4x2048x2048 .f32 := m ((c.tc : Thread nD τ).loc main_arg0)
abbrev G (c : Dev nD) : FVec Ideal S1x2048 .f32 := m ((c.tc : Thread nD τ).loc main_arg1)
abbrev Wg (c : Dev nD) : FVec Ideal S1x2048x5632 .f32 := m ((c.tc : Thread nD τ).loc main_arg2)
abbrev Wu (c : Dev nD) : FVec Ideal S1x2048x5632 .f32 := m ((c.tc : Thread nD τ).loc main_arg3)
abbrev Wd (c : Dev nD) : FVec Ideal S1x5632x2048 .f32 := m ((c.tc : Thread nD τ).loc main_arg4)
abbrev gf (c : Dev nD) : FVec Ideal S2048 .f32 := m ((c.tc : Thread nD τ).loc main_arg5)

theorem pay1_at (x : FVec Ideal S1024x2048 .f32) (i : Fin 1024) (j : Fin 2048) : k0_pay1 (F := Ideal) x (ix2 i j) = x (ix2 i j) := by
  pointwise [k0_pay1]

/-- The normalised rows kept for the whole row block. -/
theorem pay2_at (x : FVec Ideal S1024x2048 .f32) (g : FVec Ideal S1x2048 .f32) (i : Fin 1024) (j : Fin 2048) :
    k0_pay2 (F := Ideal) x g (ix2 i j) = x (ix2 i j) * Ideal.rsqrt (Ideal.div (∑ k : Fin 2048, x (ix2 i k) * x (ix2 i k)) (Scalar.ofBits .f32 0x45000000#32 : Ideal .f32)
      + (Scalar.ofBits .f32 0x358637BD#32 : Ideal .f32)) * g (ix2 0 j) := by
  pointwise [k0_pay2, k0_pay1]

/-- One point's step of the accumulation. -/
theorem pay3_at (xn : FVec Ideal S1024x2048 .bf16) (wg wu : FVec Ideal S2048x256 .f32) (acc : FVec Ideal S1024x2048 .f32) (wd : FVec Ideal S256x2048 .f32)
    (i : Fin 1024) (j : Fin 2048) : k0_pay3 (F := Ideal) xn wg wu acc wd (ix2 i j)
      = acc (ix2 i j) + ∑ f : Fin 256, unit (∑ k : Fin 2048, xn (ix2 i k) * wg (ix2 k f)) (∑ k : Fin 2048, xn (ix2 i k) * wu (ix2 k f)) * wd (ix2 f j) := by
  pointwise [k0_pay3, unit]

/-- The last step: the rows normalised. -/
theorem pay4_at (x : FVec Ideal S1024x2048 .f32) (g : FVec Ideal S1x2048 .f32) (i : Fin 1024) (j : Fin 2048) :
    k0_pay4 (F := Ideal) x g (ix2 i j) = x (ix2 i j) * Ideal.rsqrt (Ideal.div (∑ k : Fin 2048, x (ix2 i k) * x (ix2 i k)) (Scalar.ofBits .f32 0x45000000#32 : Ideal .f32)
      + (Scalar.ofBits .f32 0x358637BD#32 : Ideal .f32)) * g (ix2 0 j) := by
  pointwise [k0_pay4]

abbrev xBlk (c : Dev nD) (t : Fin cfg0.N) : FVec Ideal S1024x2048 .f32 := iblk m c 0 t
abbrev gBlk (c : Dev nD) (t : Fin cfg0.N) : FVec Ideal S1x2048 .f32 := iblk m c 1 t
abbrev wgBlk (c : Dev nD) (t : Fin cfg0.N) : FVec Ideal S2048x256 .f32 := iblk m c 2 t
abbrev wuBlk (c : Dev nD) (t : Fin cfg0.N) : FVec Ideal S2048x256 .f32 := iblk m c 3 t
abbrev wdBlk (c : Dev nD) (t : Fin cfg0.N) : FVec Ideal S256x2048 .f32 := iblk m c 4 t
abbrev gfBlk (c : Dev nD) (t : Fin cfg0.N) : FVec Ideal S1x2048 .f32 := iblk m c 5 t

/-- The batch and the row within it of the flat row `n`. -/
abbrev bat (n : ℕ) (h : n < 8192) : Fin 4 := ⟨n / 2048, by omega⟩
abbrev row (n : ℕ) : Fin 2048 := ⟨n % 2048, by omega⟩

theorem x_pt (c : Dev nD) (t : Fin cfg0.N) (ht : t.val < 176) (i : Fin 1024) (j : Fin 2048) :
    xBlk m c t (ix2 i j) = X m c (ix3 (bat (1024 * (t.val / 22) + i.val) (by omega)) (row (1024 * (t.val / 22) + i.val)) j) := by
  blk_point [iblk, V, idx t]

theorem g_pt (c : Dev nD) (t : Fin cfg0.N) (j : Fin 2048) : gBlk m c t (ix2 0 j) = G m c (ix2 0 j) := by
  blk_point [iblk, V, idx t]

theorem gf_pt (c : Dev nD) (t : Fin cfg0.N) (j : Fin 2048) : gfBlk m c t (ix2 0 j) = gf m c (ix1 j) := by
  blk_point [iblk, V, idx t]

theorem wg_pt (c : Dev nD) (t : Fin cfg0.N) (k : Fin 2048) (f : Fin 256) :
    wgBlk m c t (ix2 k f) = Wg m c (ix3 0 k ⟨256 * (t.val % 22) + f.val, by omega⟩) := by
  blk_point [iblk, V, idx t]

theorem wu_pt (c : Dev nD) (t : Fin cfg0.N) (k : Fin 2048) (f : Fin 256) :
    wuBlk m c t (ix2 k f) = Wu m c (ix3 0 k ⟨256 * (t.val % 22) + f.val, by omega⟩) := by
  blk_point [iblk, V, idx t]

theorem wd_pt (c : Dev nD) (t : Fin cfg0.N) (f : Fin 256) (j : Fin 2048) :
    wdBlk m c t (ix2 f j) = Wd m c (ix3 0 ⟨256 * (t.val % 22) + f.val, by omega⟩ j) := by
  blk_point [iblk, V, idx t]

/-- The rows the kernel normalises at the first point of a row block: the reference's normalised rows. -/
theorem xn_pt (c : Dev nD) (t : Fin cfg0.N) (ht : t.val < 176) (i : Fin 1024) (k : Fin 2048) :
    k0_pay2 (F := Ideal) (xBlk m c t) (gBlk m c t) (ix2 i k)
      = normed (X m c) (gain (G m c)) (ix3 (bat (1024 * (t.val / 22) + i.val) (by omega)) (row (1024 * (t.val / 22) + i.val)) k) := by
  rw [pay2_at, normed_at, gain_at]
  simp only [x_pt m c t ht, g_pt m c t]

/-- The share of the hidden unit `l` in the output element at batch `b`, row `r`, column `j` (zero beyond the last unit). -/
def share (c : Dev nD) (b : Fin 4) (r j : Fin 2048) (l : ℕ) : EReal :=
  if h : l < 5632 then hid (X m c) (G m c) (Wg m c) (Wu m c) (ix3 b r ⟨l, h⟩) * Wd m c (ix3 0 ⟨l, h⟩ j) else 0

/-- One point adds the shares of its 256 hidden units. -/
theorem step_pt (c : Dev nD) (t : Fin cfg0.N) (xn : FVec Ideal S1024x2048 .bf16) (acc : FVec Ideal S1024x2048 .f32) (i : Fin 1024) (b : Fin 4) (r j : Fin 2048)
    (hxn : ∀ k, xn (ix2 i k) = normed (X m c) (gain (G m c)) (ix3 b r k)) :
    k0_pay3 (F := Ideal) xn (wgBlk m c t) (wuBlk m c t) acc (wdBlk m c t) (ix2 i j)
      = acc (ix2 i j) + ∑ x ∈ Finset.range 256, share m c b r j (256 * (t.val % 22) + x) := by
  rw [pay3_at, Finset.sum_range]
  refine congrArg (fun z : EReal => acc (ix2 i j) + z) (Fin.sum_fin_congr fun f => ?_)
  rw [share, dif_pos (show 256 * (t.val % 22) + f.val < 5632 by omega), hid_at]
  simp only [hxn, wg_pt m c t, wu_pt m c t, wd_pt m c t]

/-- At the first point of a row block the rows are normalised and kept. -/
theorem scratch_A (c : Dev nD) (t : Fin cfg0.N) (h0 : t.val % 22 = 0) (h1 : ¬t.val % 22 = 21) :
    (outsAt0 (F := Ideal) m c t.val t.isLt).2 = k0_pay2 (F := Ideal) (xBlk m c t) (gBlk m c t) := by
  rw [outsAt0_A m c t h0 h1]; frame_out

/-- At the others they stay. -/
theorem scratch_B (c : Dev nD) (t : Fin cfg0.N) (h0 : ¬t.val % 22 = 0) :
    (outsAt0 (F := Ideal) m c t.val t.isLt).2 = (outsAt0 (F := Ideal) m c (t.val - 1) (Nat.lt_of_le_of_lt (Nat.sub_le _ _) t.isLt)).2 := by
  by_cases h1 : t.val % 22 = 21
  · rw [outsAt0_C m c t h0 h1]; exact rfl
  · rw [outsAt0_B m c t h0 h1]; exact rfl

/-- The output's buffer after the first point of a row block. -/
theorem out_A (c : Dev nD) (t : Fin cfg0.N) (h0 : t.val % 22 = 0) (h1 : ¬t.val % 22 = 21) :
    (outsAt0 (F := Ideal) m c t.val t.isLt).1
      = k0_pay3 (F := Ideal) (k0_pay2 (F := Ideal) (xBlk m c t) (gBlk m c t)) (wgBlk m c t) (wuBlk m c t) (k0_pay1 (F := Ideal) (xBlk m c t)) (wdBlk m c t) := by
  rw [outsAt0_A m c t h0 h1]; frame_out

/-- The step of a later point over what the point before left. -/
abbrev next (c : Dev nD) (t : Fin cfg0.N) : FVec Ideal S1024x2048 .f32 :=
  k0_pay3 (F := Ideal) (outsAt0 (F := Ideal) m c (t.val - 1) (Nat.lt_of_le_of_lt (Nat.sub_le _ _) t.isLt)).2 (wgBlk m c t) (wuBlk m c t)
    (outsAt0 (F := Ideal) m c (t.val - 1) (Nat.lt_of_le_of_lt (Nat.sub_le _ _) t.isLt)).1 (wdBlk m c t)

/-- The output's buffer after a middle point. -/
theorem out_B (c : Dev nD) (t : Fin cfg0.N) (h0 : ¬t.val % 22 = 0) (h1 : ¬t.val % 22 = 21) :
    (outsAt0 (F := Ideal) m c t.val t.isLt).1 = next m c t := by
  rw [outsAt0_B m c t h0 h1]; frame_out
  exact congrArg (fun x => k0_pay3 (F := Ideal) x (wgBlk m c t) (wuBlk m c t) (outsAt0 (F := Ideal) m c (t.val - 1) (Nat.lt_of_le_of_lt (Nat.sub_le _ _) t.isLt)).1 (wdBlk m c t))
    (Memref.IsWhole.read_unread _ _)

/-- The output's buffer after the last point of a row block. -/
theorem out_C (c : Dev nD) (t : Fin cfg0.N) (h0 : ¬t.val % 22 = 0) (h1 : t.val % 22 = 21) :
    (outsAt0 (F := Ideal) m c t.val t.isLt).1 = k0_pay4 (F := Ideal) (next m c t) (gfBlk m c t) := by
  rw [outsAt0_C m c t h0 h1]; frame_out
  exact congrArg (fun x => k0_pay4 (F := Ideal) (k0_pay3 (F := Ideal) x (wgBlk m c t) (wuBlk m c t) (outsAt0 (F := Ideal) m c (t.val - 1) (Nat.lt_of_le_of_lt (Nat.sub_le _ _) t.isLt)).1 (wdBlk m c t)) (gfBlk m c t))
    (Memref.IsWhole.read_unread _ _)

/-- The kept rows at a point: the normalised rows of its row block. -/
theorem scratch_at (c : Dev nD) : ∀ (n : ℕ) (hn : n < cfg0.N) (hn' : n < 176) (i : Fin 1024) (k : Fin 2048),
    (outsAt0 (F := Ideal) m c n hn).2 (ix2 i k)
      = normed (X m c) (gain (G m c)) (ix3 (bat (1024 * (n / 22) + i.val) (by omega)) (row (1024 * (n / 22) + i.val)) k) := by
  intro n
  induction n with
  | zero =>
    intro hn hn' i k
    rw [scratch_A m c ⟨0, hn⟩ (Nat.zero_mod 22) (by show ¬0 % 22 = 21; omega)]
    exact xn_pt m c ⟨0, hn⟩ hn' i k
  | succ n ih =>
    intro hn hn' i k
    by_cases h0 : (n + 1) % 22 = 0
    · rw [scratch_A m c ⟨n + 1, hn⟩ h0 (by show ¬(n + 1) % 22 = 21; omega)]
      exact xn_pt m c ⟨n + 1, hn⟩ hn' i k
    · have hq : (n + 1) / 22 = n / 22 := by omega
      rw [scratch_B m c ⟨n + 1, hn⟩ h0]
      simp only [hq]
      exact ih (by omega) (by omega) i k

/-- The accumulated rows before the last step of a row block: the rows and the shares of the first `256 (n % 22 + 1)` hidden units. -/
def soFar (c : Dev nD) (n : ℕ) (h : n < 176) (i : Fin 1024) (j : Fin 2048) : EReal :=
  X m c (ix3 (bat (1024 * (n / 22) + i.val) (by omega)) (row (1024 * (n / 22) + i.val)) j)
    + ∑ x ∈ Finset.range (256 * (n % 22) + 256), share m c (bat (1024 * (n / 22) + i.val) (by omega)) (row (1024 * (n / 22) + i.val)) j x

/-- The first point's step. -/
theorem first_pt (c : Dev nD) (t : Fin cfg0.N) (ht : t.val < 176) (h0 : t.val % 22 = 0) (h1 : ¬t.val % 22 = 21) (i : Fin 1024) (j : Fin 2048) :
    (outsAt0 (F := Ideal) m c t.val t.isLt).1 (ix2 i j) = soFar m c t.val ht i j := by
  rw [out_A m c t h0 h1, step_pt m c t _ _ i _ _ j (fun k => xn_pt m c t ht i k), pay1_at, x_pt m c t ht, soFar, h0]
  simp only [Nat.mul_zero, Nat.zero_add]

/-- A later point's step. -/
theorem next_pt (c : Dev nD) (n : ℕ) (hn : n + 1 < cfg0.N) (hn' : n + 1 < 176) (h0 : ¬(n + 1) % 22 = 0)
    (ih : ∀ (i : Fin 1024) (j : Fin 2048), (outsAt0 (F := Ideal) m c n (Nat.lt_of_succ_lt hn)).1 (ix2 i j) = soFar m c n (by omega) i j) (i : Fin 1024) (j : Fin 2048) :
    next m c ⟨n + 1, hn⟩ (ix2 i j) = soFar m c (n + 1) hn' i j := by
  refine (step_pt m c ⟨n + 1, hn⟩ _ _ i _ _ j (fun k => scratch_at m c n (Nat.lt_of_succ_lt hn) (by omega) i k)).trans ?_
  refine (congrArg (fun z : EReal => z + _) (ih i j)).trans ?_
  have hq : (n + 1) / 22 = n / 22 := by omega
  have hr : (n + 1) % 22 = n % 22 + 1 := by omega
  simp only [soFar, hq, hr, add_assoc]
  rw [show 256 * (n % 22 + 1) = 256 * (n % 22) + 256 from rfl, Finset.sum_range_add _ (256 * (n % 22) + 256) 256]

/-- The output's buffer at a point that isn't the last of its row block. -/
theorem acc_at (c : Dev nD) : ∀ (n : ℕ) (hn : n < cfg0.N) (hn' : n < 176) (h : ¬n % 22 = 21) (i : Fin 1024) (j : Fin 2048),
    (outsAt0 (F := Ideal) m c n hn).1 (ix2 i j) = soFar m c n hn' i j := by
  intro n
  induction n with
  | zero =>
    intro hn hn' h i j
    exact first_pt m c ⟨0, hn⟩ hn' (Nat.zero_mod 22) h i j
  | succ n ih =>
    intro hn hn' h i j
    by_cases h0 : (n + 1) % 22 = 0
    · exact first_pt m c ⟨n + 1, hn⟩ hn' h0 h i j
    · rw [out_B m c ⟨n + 1, hn⟩ h0 h]
      exact next_pt m c n hn hn' h0 (ih (Nat.lt_of_succ_lt hn) (by omega) (by omega)) i j

/-- All 5632 shares and the row: the reference's residual stream. -/
theorem soFar_all (c : Dev nD) (n : ℕ) (h : n < 176) (h1 : n % 22 = 21) (i : Fin 1024) (j : Fin 2048) :
    soFar m c n h i j = stream (X m c) (hid (X m c) (G m c) (Wg m c) (Wu m c)) (Wd m c)
      (ix3 (bat (1024 * (n / 22) + i.val) (by omega)) (row (1024 * (n / 22) + i.val)) j) := by
  rw [soFar, stream_at, h1, show 256 * 21 + 256 = 5632 from rfl, Finset.sum_range]
  refine congrArg (fun z : EReal => _ + z) (Fin.sum_fin_congr fun f => ?_)
  rw [share, dif_pos f.isLt]

/-- The rows before the last step, at the last point of a row block. -/
theorem last_pt (c : Dev nD) (t : Fin cfg0.N) (ht : t.val < 176) (h1 : t.val % 22 = 21) (i : Fin 1024) (j : Fin 2048) :
    next m c t (ix2 i j) = stream (X m c) (hid (X m c) (G m c) (Wg m c) (Wu m c)) (Wd m c)
      (ix3 (bat (1024 * (t.val / 22) + i.val) (by omega)) (row (1024 * (t.val / 22) + i.val)) j) := by
  obtain ⟨n, hn⟩ := t
  cases n with
  | zero => exact absurd h1 (by show ¬0 % 22 = 21; omega)
  | succ n =>
    have h1' : (n + 1) % 22 = 21 := h1
    have ht' : n + 1 < 176 := ht
    exact (next_pt m c n hn ht' (by omega) (acc_at m c n (Nat.lt_of_succ_lt hn) (by omega) (by omega)) i j).trans (soFar_all m c (n + 1) ht' h1' i j)

/-- The kernel's result is the reference's. -/
theorem final6 (c : Dev nD) : (dats m 0 c).arrAt 6 (cfgs 0).N = ffnRef (X m c) (G m c) (Wg m c) (Wu m c) (Wd m c) (gf m c) := by
  refine (dats m 0 c).arrAt_eq_of_covers 6 _ (by decide +kernel) fun t hf y => ?_
  have h1 : t.val % 22 = 21 := (flush0_6 t).mp hf
  have ht : t.val < 176 := t.isLt
  blk_simp
  rw [after0_6, out_C m c t (by omega) h1]
  obtain ⟨i, j, rfl⟩ : ∃ (i : Fin 1024) (j : Fin 2048), y = ix2 i j := ⟨y 0, y 1, by ext a; fin_cases a <;> rfl⟩
  refine Eq.trans (b := ffnRef (X m c) (G m c) (Wg m c) (Wu m c) (Wd m c) (gf m c) (ix2 ⟨1024 * (t.val / 22) + i.val, by omega⟩ j)) ?_
    (congrArg (ffnRef (X m c) (G m c) (Wg m c) (Wu m c) (Wd m c) (gf m c)) ?_)
  · rw [ffnRef_at, pay4_at, normed_at]
    simp only [last_pt m c t ht h1, gf_pt m c t]
  · blk_ext [idx t]

end Cert.Kernel2Ideal.Ffn

end
-- ==== Proof.FfnClaim.lean ====
module

public import proofs.«01_k».proof.Defs
public import proofs.«01_k».proof.Proof.FfnValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The feed-forward part: over the extended reals the kernel and its reference compute the same function. -/
theorem ffn_algebraic : Cert.algebraic_Kernel2Ideal_Reference2Ideal := by
  pair_intro
  · run_from Cert.Kernel2Ideal.Gen.run_main m g
  · hlo_run
    exact (Cert.Kernel2Ideal.Ffn.final6 m c).symm

end Cert.Proof

end
-- ==== Proof.MemValue.lean ====
/- The memory projection call (`_norm_matmul`): its result array is the reference's, element by element. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Reference3Ideal.Mem

open Cert.Reference3Ideal Cert.Reference3Ideal.Gen Idealize.ShloMosaic Idealize.ShloMosaic.TcCoe Idealize.SL.Sem

/-- The reference's normalised rows. -/
def normed (X : FVec Ideal S4x256x2048 .f32) (G : FVec Ideal S1x2048 .f32) : FVec Ideal S4x256x2048 .f32 :=
  mulf (mulf X (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf X X) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ G shapeCasts_S1x2048_S2048)))

/-- The reference's result. -/
def memRef (X : FVec Ideal S4x256x2048 .f32) (G : FVec Ideal S1x2048 .f32) (W : FVec Ideal S1x2048x2048 .f32) : FVec Ideal S1024x2048 .f32 :=
  shapeCast _ (Host.dotGeneral dot_S4x256x2048_S2048x2048_S4x256x2048_2_0_01_1_n_n none (normed X G) (shapeCast S2048x2048 W shapeCasts_S1x2048x2048_S2048x2048)) shapeCasts_S4x256x2048_S1024x2048

/-- Each element of the result is a row of the normalised rows times a column of the weights. -/
theorem memRef_at (X : FVec Ideal S4x256x2048 .f32) (G : FVec Ideal S1x2048 .f32) (W : FVec Ideal S1x2048x2048 .f32) (i : Fin 1024) (j : Fin 2048) :
    memRef X G W (ix2 i j) = ∑ k : Fin 2048, normed X G (ix3 ⟨i.val / 256, by omega⟩ ⟨i.val % 256, by omega⟩ k) * W (ix3 0 k j) := by
  pointwise [memRef]

end Cert.Reference3Ideal.Mem

namespace Cert.Kernel3Ideal.Mem

open Cert.Kernel3Ideal Cert.Kernel3Ideal.Gen Idealize.ShloMosaic Idealize.ShloMosaic.TcCoe Idealize.SL.Sem
open Idealize.ShloMosaic.Pipeline (Dat)
open Cert.Reference3Ideal.Mem (normed memRef memRef_at)

variable (m : (ℓ : Loc nD τ sig) → Buf (Elt Ideal) ℓ)

/-- The blocks' places. -/
theorem idx : ∀ t : Fin cfg0.N, win0_0.index t = ![0, 0] ∧ win0_1.index t = ![0, 0] ∧ win0_2.index t = ![0, t.val] ∧ win0_3.index t = ![0, t.val] :=
  (by decide +kernel : ∀ t : Fin grid0.N, _)

abbrev X (c : Dev nD) : FVec Ideal S4x256x2048 .f32 := m ((c.tc : Thread nD τ).loc main_arg0)
abbrev G (c : Dev nD) : FVec Ideal S1x2048 .f32 := m ((c.tc : Thread nD τ).loc main_arg1)
abbrev W (c : Dev nD) : FVec Ideal S1x2048x2048 .f32 := m ((c.tc : Thread nD τ).loc main_arg2)

theorem hpay2 (x : FVec Ideal S1024x2048 .bf16) (w : FVec Ideal S2048x1024 .f32) (i : Fin 1024) (j : Fin 1024) :
    k0_pay2 (F := Ideal) x w (ix2 i j) = ∑ k : Fin 2048, x (ix2 i k) * w (ix2 k j) := by
  pointwise [k0_pay2]

/-- The rows the body normalises are the reference's. -/
theorem norm_at (c : Dev nD) (t : Fin cfg0.N) (i : Fin 1024) (k : Fin 2048) :
    k0_pay1 (F := Ideal) (iblk m c 0 t) (iblk m c 1 t) (ix2 i k) = normed (X m c) (G m c) (ix3 ⟨i.val / 256, by omega⟩ ⟨i.val % 256, by omega⟩ k) := by
  pointwise [k0_pay1, normed]
  blk_point [iblk, V, idx t]

/-- At the first point the carried rows are written from the point's own blocks. -/
theorem scratch_A (c : Dev nD) (t : Fin cfg0.N) (h : t.val % 2 = 0) :
    (outsAt0 m c t.val t.isLt).2 = k0_pay1 (F := Ideal) (iblk m c 0 t) (iblk m c 1 t) := by
  rw [outsAt0_A m c t h]; frame_out

/-- At the other point they stay. -/
theorem scratch_B (c : Dev nD) (t : Fin cfg0.N) (h : ¬t.val % 2 = 0) :
    (outsAt0 m c t.val t.isLt).2 = (outsAt0 m c (t.val - 1) (Nat.lt_of_le_of_lt (Nat.sub_le _ _) t.isLt)).2 := by
  rw [outsAt0_B m c t h]
  exact rfl

/-- The rows carried between the points are the reference's normalised rows. -/
theorem scratch_at (c : Dev nD) (i : Fin 1024) (k : Fin 2048) : ∀ (n : Nat) (hn : n < cfg0.N),
    ((outsAt0 m c n hn).2 : FVec Ideal S1024x2048 .bf16) (ix2 i k) = normed (X m c) (G m c) (ix3 ⟨i.val / 256, by omega⟩ ⟨i.val % 256, by omega⟩ k) := by
  intro n
  induction n with
  | zero => intro hn; rw [scratch_A m c ⟨0, hn⟩ rfl]; exact norm_at m c _ i k
  | succ n ih =>
    intro hn
    by_cases h : (n + 1) % 2 = 0
    · rw [scratch_A m c ⟨n + 1, hn⟩ h]; exact norm_at m c _ i k
    · rw [scratch_B m c ⟨n + 1, hn⟩ h]; exact ih _

/-- The block each point writes: the carried rows times the point's columns of the weights. -/
theorem out_eq (c : Dev nD) (t : Fin cfg0.N) :
    (outsAt0 m c t.val t.isLt).1 = k0_pay2 (F := Ideal) (outsAt0 m c t.val t.isLt).2 (iblk m c 2 t) := by
  by_cases h : t.val % 2 = 0
  · rw [scratch_A m c t h, outsAt0_A m c t h]; frame_out
  · rw [scratch_B m c t h, outsAt0_B m c t h]; frame_out
    exact congrArg (fun x => k0_pay2 (F := Ideal) x (iblk m c 2 t)) (Memref.IsWhole.read_unread _ _)

/-- The result array. -/
theorem final3 (c : Dev nD) : (dats m 0 c).arrAt 3 (cfgs 0).N = memRef (X m c) (G m c) (W m c) := by
  refine (dats m 0 c).arrAt_eq_of_covers 3 _ (by decide +kernel) fun t _ y => ?_
  blk_simp
  rw [after0_3, out_eq]
  obtain ⟨i, j, rfl⟩ : ∃ (i : Fin 1024) (j : Fin 1024), y = ix2 i j := ⟨y 0, y 1, by ext a; fin_cases a <;> rfl⟩
  have ht : t.val < 2 := t.isLt
  refine Eq.trans (b := memRef (X m c) (G m c) (W m c) (ix2 i ⟨1024 * t.val + j.val, by omega⟩)) ?_ (congrArg (memRef (X m c) (G m c) (W m c)) ?_)
  · rw [hpay2, memRef_at]
    refine Fin.sum_fin_congr fun k => ?_
    rw [scratch_at]
    blk_point [iblk, V, idx t]
  · blk_ext [idx t]

end Cert.Kernel3Ideal.Mem

end
-- ==== Proof.MemClaim.lean ====
module

public import proofs.«01_k».proof.Defs
public import proofs.«01_k».proof.Proof.MemValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The memory's projection: over the extended reals the kernel and its reference compute the same function. -/
theorem mem_algebraic : Cert.algebraic_Kernel3Ideal_Reference3Ideal := by
  pair_intro
  · run_from Cert.Kernel3Ideal.Gen.run_main m g
  · hlo_run
    exact (Cert.Kernel3Ideal.Mem.final3 m c).symm

end Cert.Proof

end
-- ==== Proof.AttnRef.lean ====
/- The memory attention (`_attention_out`): what its reference computes, element by element. -/
module

public import proofs.«01_k».proof.Proof.Gen.Reference4Ideal.Run
public import Idealize.ShloMosaic.Lib.Pipeline.ValueKit

@[expose] public section

set_option maxRecDepth 16384

noncomputable section

namespace Cert.Reference4Ideal.Attn

open Cert.Reference4Ideal Cert.Reference4Ideal.Gen Idealize.ShloMosaic Idealize.ShloMosaic.TcCoe Idealize.SL.Sem

/-- One query row against 256 memory slots: the softmax of the scores `s`, taken as weights of the values `v`. -/
def attend (s v : Fin 256 → EReal) : EReal :=
  ∑ x, Ideal.div (Ideal.exp (s x - Finset.fold max (Scalar.ofBits .f32 0xFF800000#32 : Ideal .f32) s Finset.univ))
    (∑ x, Ideal.exp (s x - Finset.fold max (Scalar.ofBits .f32 0xFF800000#32 : Ideal .f32) s Finset.univ)) * v x

/-- The reference's scaled scores of every query row, head by head. -/
def scores (Q : FVec Ideal S4x2048x2048 .f32) (K : FVec Ideal S4x256x4x512 .f32) : FVec Ideal S4x4x2048x256 .f32 :=
  mulf (Host.dotGeneral dot_S4x2048x4x512_S4x256x4x512_S4x4x2048x256_3_3_1_1_02_02 none (shapeCast S4x2048x4x512 Q shapeCasts_S4x2048x2048_S4x2048x4x512) K) (broadcastInDim S4x4x2048x256 ![] bcast_S_S4x4x2048x256 (constant S_ .f32 0x3D3504F3#32))

/-- The largest score of every row. -/
def rowMax (s : FVec Ideal S4x4x2048x256 .f32) : FVec Ideal S4x4x2048 .f32 :=
  Host.reduce FloatOps.maximumf s (constant S_ .f32 0xFF800000#32) reducesTo_S4x4x2048x256_S4x4x2048_d3 h_S_

/-- The exponentials of the scores less their row's maximum. -/
def expOver (s : FVec Ideal S4x4x2048x256 .f32) (mx : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) mx))))

/-- The softmax: each exponential over the sum of its row. -/
def probs (w : FVec Ideal S4x4x2048x256 .f32) : FVec Ideal S4x4x2048x256 .f32 :=
  Host.divf w (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd w (constant S_ .f32 0x00000000#32) reducesTo_S4x4x2048x256_S4x4x2048_d3 h_S_)))

/-- The values mixed by the softmax, the heads side by side. -/
def mixed (V : FVec Ideal S4x256x4x512 .f32) (p : FVec Ideal S4x4x2048x256 .f32) : FVec Ideal S4x2048x2048 .f32 :=
  shapeCast S4x2048x2048 (transpose S4x2048x4x512 [0, 3, 1, 2] (Host.dotGeneral dot_S4x256x4x512_S4x4x2048x256_S4x4x512x2048_1_3_3_2_02_01 none V p) transposes_S4x4x512x2048_S4x2048x4x512_0_3_1_2) shapeCasts_S4x2048x4x512_S4x2048x2048

/-- The attention of every row: the heads side by side. -/
def attended (Q : FVec Ideal S4x2048x2048 .f32) (K V : FVec Ideal S4x256x4x512 .f32) : FVec Ideal S4x2048x2048 .f32 :=
  mixed V (probs (expOver (scores Q K) (rowMax (scores Q K))))

/-- The reference's result. -/
def attnRef (Q : FVec Ideal S4x2048x2048 .f32) (K V : FVec Ideal S4x256x4x512 .f32) (Wo : FVec Ideal S1x2048x2048 .f32)
    (X : FVec Ideal S4x2048x2048 .f32) : FVec Ideal S8192x2048 .f32 :=
  shapeCast S8192x2048 (addf X (Host.dotGeneral dot_S4x2048x2048_S2048x2048_S4x2048x2048_2_0_01_1_n_n none (attended Q K V) (shapeCast S2048x2048 Wo shapeCasts_S1x2048x2048_S2048x2048))) shapeCasts_S4x2048x2048_S8192x2048

theorem scores_at (Q : FVec Ideal S4x2048x2048 .f32) (K : FVec Ideal S4x256x4x512 .f32) (b h : Fin 4) (r : Fin 2048) (x : Fin 256) :
    scores Q K (ix4 b h r x) = (∑ d : Fin 512, Q (ix3 b r ⟨h.val * 512 + d.val, by omega⟩) * K (ix4 b x h d)) * (Scalar.ofBits .f32 0x3D3504F3#32 : Ideal .f32) := by
  pointwise [scores]

/-- A maximum that starts at `z` is at least `z`: taking it against `z` again changes nothing. -/
theorem max_start (z : EReal) (f : Fin 256 → EReal) : max z (Finset.fold max z f Finset.univ) = Finset.fold max z f Finset.univ :=
  max_eq_right ((Finset.le_fold_max z).mpr (Or.inl le_rfl))

theorem expOver_at (s : FVec Ideal S4x4x2048x256 .f32) (mx : FVec Ideal S4x4x2048 .f32) (b h : Fin 4) (r : Fin 2048) (x : Fin 256) :
    expOver s mx (ix4 b h r x) = Ideal.exp (s (ix4 b h r x) - max (Scalar.ofBits .f32 0xFF800000#32 : Ideal .f32) (mx (ix3 b h r))) := by
  pointwise [expOver]

theorem rowMax_at (s : FVec Ideal S4x4x2048x256 .f32) (b h : Fin 4) (r : Fin 2048) :
    rowMax s (ix3 b h r) = Finset.fold max (Scalar.ofBits .f32 0xFF800000#32 : Ideal .f32) (fun x => s (ix4 b h r x)) Finset.univ := by
  pointwise [rowMax]

theorem probs_at (w : FVec Ideal S4x4x2048x256 .f32) (b h : Fin 4) (r : Fin 2048) (x : Fin 256) :
    probs w (ix4 b h r x) = Ideal.div (w (ix4 b h r x)) (∑ x, w (ix4 b h r x)) := by
  pointwise [probs]

theorem mixed_at (V : FVec Ideal S4x256x4x512 .f32) (p : FVec Ideal S4x4x2048x256 .f32) (b h : Fin 4) (r : Fin 2048) (d : Fin 512) :
    mixed V p (ix3 b r ⟨h.val * 512 + d.val, by omega⟩) = ∑ x, p (ix4 b h r x) * V (ix4 b x h d) := by
  pointwise [mixed]
  exact Fin.sum_fin_congr fun x => mul_comm _ _

theorem attended_at (Q : FVec Ideal S4x2048x2048 .f32) (K V : FVec Ideal S4x256x4x512 .f32) (b h : Fin 4) (r : Fin 2048) (d : Fin 512) :
    attended Q K V (ix3 b r ⟨h.val * 512 + d.val, by omega⟩)
      = attend (fun x => (∑ d : Fin 512, Q (ix3 b r ⟨h.val * 512 + d.val, by omega⟩) * K (ix4 b x h d)) * (Scalar.ofBits .f32 0x3D3504F3#32 : Ideal .f32)) (fun x => V (ix4 b x h d)) := by
  simp only [attended, mixed_at, probs_at, expOver_at, rowMax_at, scores_at, max_start, attend]

theorem attnRef_at (Q : FVec Ideal S4x2048x2048 .f32) (K V : FVec Ideal S4x256x4x512 .f32) (Wo : FVec Ideal S1x2048x2048 .f32)
    (X : FVec Ideal S4x2048x2048 .f32) (i : Fin 8192) (j : Fin 2048) :
    attnRef Q K V Wo X (ix2 i j) = X (ix3 ⟨i.val / 2048, by omega⟩ ⟨i.val % 2048, by omega⟩ j)
      + ∑ k : Fin 2048, attended Q K V (ix3 ⟨i.val / 2048, by omega⟩ ⟨i.val % 2048, by omega⟩ k) * Wo (ix3 0 k j) := by
  pointwise [attnRef]

end Cert.Reference4Ideal.Attn

end
-- ==== Proof.AttnValue.lean ====
/- The memory attention (`_attention_out`): the array its kernel leaves is the reference's result. -/
module

public import proofs.«01_k».proof.Proof.AttnRef
public import proofs.«01_k».proof.Proof.Gen.Kernel4Ideal.Value

@[expose] public section

set_option maxRecDepth 16384

noncomputable section

namespace Cert.Kernel4Ideal.Attn

open Cert.Kernel4Ideal Cert.Kernel4Ideal.Gen Idealize.ShloMosaic Idealize.ShloMosaic.TcCoe Idealize.SL.Sem
open Idealize.ShloMosaic.Pipeline (Dat)
open Cert.Reference4Ideal.Attn (attend attended attended_at attnRef attnRef_at)

variable (m : (ℓ : Loc nD τ sig) → Buf (Elt Ideal) ℓ)

/-- The grid point's block numbers: point `t` takes rows `512 t …` of the flat rows, of batch `t / 4`. -/
theorem idx : ∀ t : Fin cfg0.N, win0_0.index t = ![t.val, 0] ∧ win0_1.index t = ![t.val / 4, 0, 0] ∧ win0_2.index t = ![t.val / 4, 0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![t.val / 4, 0, 0] ∧ win0_2.index t = ![t.val / 4, 0, 0]
    ∧ win0_3.index t = ![0, 0] ∧ win0_4.index t = ![t.val, 0] ∧ win0_5.index t = ![t.val, 0])

abbrev Q (c : Dev nD) : FVec Ideal S4x2048x2048 .f32 := m ((c.tc : Thread nD τ).loc main_arg0)
abbrev K (c : Dev nD) : FVec Ideal S4x256x4x512 .f32 := m ((c.tc : Thread nD τ).loc main_arg1)
abbrev V' (c : Dev nD) : FVec Ideal S4x256x4x512 .f32 := m ((c.tc : Thread nD τ).loc main_arg2)
abbrev Wo (c : Dev nD) : FVec Ideal S1x2048x2048 .f32 := m ((c.tc : Thread nD τ).loc main_arg3)
abbrev X (c : Dev nD) : FVec Ideal S4x2048x2048 .f32 := m ((c.tc : Thread nD τ).loc main_arg4)

/-- One head of one row, out of the head's own columns. -/
def headOf (q : FVec Ideal S512x512 .bf16) (k v : FVec Ideal S1x256x512 .f32) (i j : Fin 512) : EReal :=
  attend (fun x => (∑ d : Fin 512, q (ix2 i d) * k (ix3 0 x d)) * (Scalar.ofBits .f32 0x3D3504F3#32 : Ideal .f32)) (fun x => v (ix3 0 x j))

/-- The first head's payload. -/
theorem pay2_at (q : FVec Ideal S512x512 .bf16) (k v : FVec Ideal S1x256x512 .f32) (i j : Fin 512) :
    k0_pay2 (F := Ideal) q k v (ix2 i j) = headOf q k v i j := by
  pointwise [k0_pay2, headOf, attend]

/-- The second head's payload. -/
theorem pay6_at (q : FVec Ideal S512x512 .bf16) (k v : FVec Ideal S1x256x512 .f32) (i j : Fin 512) :
    k0_pay6 (F := Ideal) (k0_pay3 q) (k0_pay4 k) (k0_pay5 v) (ix2 i j) = headOf q k v i j := by
  pointwise [k0_pay6, k0_pay3, k0_pay4, k0_pay5, headOf, attend]

/-- The third head's payload. -/
theorem pay9_at (q : FVec Ideal S512x512 .bf16) (k v : FVec Ideal S1x256x512 .f32) (i j : Fin 512) :
    k0_pay9 (F := Ideal) (k0_pay7 v) (k0_pay8 q k) (constant S512x512 .f32 0x00000000#32) (ix2 i j) = headOf q k v i j := by
  pointwise [k0_pay9, k0_pay7, k0_pay8, headOf, attend]

/-- The fourth head's payload. -/
theorem pay10_at (q : FVec Ideal S512x512 .bf16) (k v : FVec Ideal S1x256x512 .f32) (i j : Fin 512) :
    k0_pay10 (F := Ideal) q k v (ix2 i j) = headOf q k v i j := by
  pointwise [k0_pay10, headOf, attend]

/-- The projection of the heads and the residual. -/
theorem pay1_at (x : FVec Ideal S512x2048 .f32) (o : FVec Ideal S512x2048 .bf16) (w : FVec Ideal S2048x2048 .bf16) (i : Fin 512) (j : Fin 2048) :
    k0_pay1 (F := Ideal) (k0_pay11 x) o w (ix2 i j) = x (ix2 i j) + ∑ k : Fin 2048, o (ix2 i k) * w (ix2 k j) := by
  pointwise [k0_pay1, k0_pay11]

/-- The head read off the reference's arrays: the query row `512 t + i` of the flat rows, the head's columns from `512 h` on. -/
theorem head_point (c : Dev nD) (t : Fin cfg0.N) (ht : t.val < 16) (h : Fin 4) (q : FVec Ideal S512x512 .bf16) (k v : FVec Ideal S1x256x512 .f32)
    (hq : ∀ i d, q (ix2 i d) = Q m c (ix3 ⟨t.val / 4, by omega⟩ ⟨t.val % 4 * 512 + i.val, by omega⟩ ⟨h.val * 512 + d.val, by omega⟩))
    (hk : ∀ x d, k (ix3 0 x d) = K m c (ix4 ⟨t.val / 4, by omega⟩ x h d)) (hv : ∀ x d, v (ix3 0 x d) = V' m c (ix4 ⟨t.val / 4, by omega⟩ x h d))
    (i d : Fin 512) : headOf q k v i d
      = attended (Q m c) (K m c) (V' m c) (ix3 ⟨t.val / 4, by omega⟩ ⟨t.val % 4 * 512 + i.val, by omega⟩ ⟨h.val * 512 + d.val, by omega⟩) := by
  rw [attended_at]
  simp only [headOf, hq, hk, hv]

/-- The query block at a point: the head's columns of the flat rows. -/
theorem q_point (c : Dev nD) (t : Fin cfg0.N) (ht : t.val < 16) (h : Fin 4) (i d : Fin 512) :
    iblk m c 0 t (ix2 i ⟨h.val * 512 + d.val, by omega⟩) = Q m c (ix3 ⟨t.val / 4, by omega⟩ ⟨t.val % 4 * 512 + i.val, by omega⟩ ⟨h.val * 512 + d.val, by omega⟩) := by
  blk_point [iblk, V, idx t]

/-- The key block at a point: the head's columns are the head's own keys. -/
theorem k_point (c : Dev nD) (t : Fin cfg0.N) (ht : t.val < 16) (h : Fin 4) (x : Fin 256) (d : Fin 512) :
    iblk m c 1 t (ix3 0 x ⟨h.val * 512 + d.val, by omega⟩) = K m c (ix4 ⟨t.val / 4, by omega⟩ x h d) := by
  blk_point [iblk, V, idx t]

/-- The value block at a point: the head's columns are the head's own values. -/
theorem v_point (c : Dev nD) (t : Fin cfg0.N) (ht : t.val < 16) (h : Fin 4) (x : Fin 256) (d : Fin 512) :
    iblk m c 2 t (ix3 0 x ⟨h.val * 512 + d.val, by omega⟩) = V' m c (ix4 ⟨t.val / 4, by omega⟩ x h d) := by
  blk_point [iblk, V, idx t]

/-- A load of 512 columns of the query block. -/
theorem ld_cols {Val : EltTy → Type} {e : EltTy} (B : S512x2048.Idx → Val e) (h : Fin 4) (o : ℕ) (ho : o = h.val * 512) (inb : ∀ a, (![0, o] : Fin 2 → ℕ) a + (![512, 512] : Fin 2 → ℕ) a ≤ S512x2048.size a) (i d : Fin 512) :
    (View.ld (Val := Val) (e' := e) B (Rect.unit (s := S512x2048) ![0, o] ![512, 512] inb) : S512x512.Idx → Val e) (ix2 i d) = B (ix2 i ⟨h.val * 512 + d.val, by omega⟩) := by
  subst ho
  show B ((Rect.unit (s := S512x2048) ![0, h.val * 512] ![512, 512] inb).emb (ix2 i d)) = _
  refine congrArg B (funext fun a => Fin.ext ?_)
  rw [Rect.emb_apply]
  fin_cases a
  · show 0 + 1 * i.val = i.val; omega
  · show h.val * 512 + 1 * d.val = h.val * 512 + d.val; omega

/-- A load of 512 columns of a key or value block. -/
theorem ld_cols3 {Val : EltTy → Type} {e : EltTy} (B : S1x256x2048.Idx → Val e) (h : Fin 4) (o : ℕ) (ho : o = h.val * 512) (inb : ∀ a, (![0, 0, o] : Fin 3 → ℕ) a + (![1, 256, 512] : Fin 3 → ℕ) a ≤ S1x256x2048.size a)
    (x : Fin 256) (d : Fin 512) :
    (View.ld (Val := Val) (e' := e) B (Rect.unit (s := S1x256x2048) ![0, 0, o] ![1, 256, 512] inb) : S1x256x512.Idx → Val e) (ix3 0 x d) = B (ix3 0 x ⟨h.val * 512 + d.val, by omega⟩) := by
  subst ho
  show B ((Rect.unit (s := S1x256x2048) ![0, 0, h.val * 512] ![1, 256, 512] inb).emb (ix3 0 x d)) = _
  refine congrArg B (funext fun a => Fin.ext ?_)
  rw [Rect.emb_apply]
  fin_cases a
  · show 0 + 1 * 0 = 0; omega
  · show 0 + 1 * x.val = x.val; omega
  · show h.val * 512 + 1 * d.val = h.val * 512 + d.val; omega

/-- A stored head at its own columns is the reference's attention there. -/
theorem head_piece (c : Dev nD) (t : Fin cfg0.N) (ht : t.val < 16) (h : Fin 4) (p : S512x512.Idx → EReal)
    (hp : ∀ i d : Fin 512, p (ix2 i d) = attended (Q m c) (K m c) (V' m c) (ix3 ⟨t.val / 4, by omega⟩ ⟨t.val % 4 * 512 + i.val, by omega⟩ ⟨h.val * 512 + d.val, by omega⟩))
    (x : S512x512.Idx) (i : Fin 512) (k : Fin 2048) (h0 : i.val = (x 0).val) (h1 : k.val = h.val * 512 + (x 1).val) :
    p x = attended (Q m c) (K m c) (V' m c) (ix3 ⟨t.val / 4, by omega⟩ ⟨t.val % 4 * 512 + i.val, by omega⟩ k) := by
  obtain ⟨a, d, rfl⟩ : ∃ a d : Fin 512, x = ix2 a d := ⟨x 0, x 1, by ext a; fin_cases a <;> rfl⟩
  obtain rfl : i = a := Fin.ext h0
  rw [show k = ⟨h.val * 512 + d.val, by omega⟩ from Fin.ext h1]
  exact hp i d

/-- The residual block and the weights a point reads. -/
abbrev xBlk (c : Dev nD) (t : Fin cfg0.N) : FVec Ideal S512x2048 .f32 := iblk m c 4 t
abbrev wBlk (c : Dev nD) (t : Fin cfg0.N) : FVec Ideal S2048x2048 .bf16 := iblk m c 3 t

/-- What the point's last step reads of the heads' buffer: the reference's attention, the heads side by side. -/
theorem out_at (c : Dev nD) (t : Fin cfg0.N) (ht : t.val < 16) (i : Fin 512) (j : Fin 2048) : outsAt0 (F := Ideal) m c t (ix2 i j)
    = xBlk m c t (ix2 i j) + ∑ k : Fin 2048, attended (Q m c) (K m c) (V' m c) (ix3 ⟨t.val / 4, by omega⟩ ⟨t.val % 4 * 512 + i.val, by omega⟩ k) * wBlk m c t (ix2 k j) := by
  unfold outsAt0
  frame_out
  refine (pay1_at _ _ _ i j).trans ?_
  refine congrArg (fun z : EReal => xBlk m c t (ix2 i j) + z) (Fin.sum_fin_congr fun k => congrArg (fun z : EReal => z * wBlk m c t (ix2 k j)) ?_)
  rw [View.readCov_eq_canon_ld _ _ _ (View.cover_of_tiled_head _ _ _ rfl), View.ld_unit_lit _ _ (by intro a; fin_cases a <;> rfl)]
  canon_tiles x hx
  · exact head_piece m c t ht 3 _ (fun i d => (pay10_at _ _ _ i d).trans (head_point m c t ht 3 _ _ _ (fun i d => (ld_cols _ 3 _ rfl _ i d).trans (q_point m c t ht 3 i d)) (fun x d => (ld_cols3 _ 3 _ rfl _ x d).trans (k_point m c t ht 3 x d)) (fun x d => (ld_cols3 _ 3 _ rfl _ x d).trans (v_point m c t ht 3 x d)) i d)) x i k hx0 hx1
  · exact head_piece m c t ht 2 _ (fun i d => (pay9_at _ _ _ i d).trans (head_point m c t ht 2 _ _ _ (fun i d => (ld_cols _ 2 _ rfl _ i d).trans (q_point m c t ht 2 i d)) (fun x d => (ld_cols3 _ 2 _ rfl _ x d).trans (k_point m c t ht 2 x d)) (fun x d => (ld_cols3 _ 2 _ rfl _ x d).trans (v_point m c t ht 2 x d)) i d)) x i k hx0 hx1
  · exact head_piece m c t ht 1 _ (fun i d => (pay6_at _ _ _ i d).trans (head_point m c t ht 1 _ _ _ (fun i d => (ld_cols _ 1 _ rfl _ i d).trans (q_point m c t ht 1 i d)) (fun x d => (ld_cols3 _ 1 _ rfl _ x d).trans (k_point m c t ht 1 x d)) (fun x d => (ld_cols3 _ 1 _ rfl _ x d).trans (v_point m c t ht 1 x d)) i d)) x i k hx0 hx1
  · exact head_piece m c t ht 0 _ (fun i d => (pay2_at _ _ _ i d).trans (head_point m c t ht 0 _ _ _ (fun i d => (ld_cols _ 0 _ rfl _ i d).trans (q_point m c t ht 0 i d)) (fun x d => (ld_cols3 _ 0 _ rfl _ x d).trans (k_point m c t ht 0 x d)) (fun x d => (ld_cols3 _ 0 _ rfl _ x d).trans (v_point m c t ht 0 x d)) i d)) x i k hx0 (hx1.trans (Nat.zero_add _).symm)

/-- The kernel's result is the reference's. -/
theorem final5 (c : Dev nD) : (dats m 0 c).arrAt 5 (cfgs 0).N = attnRef (Q m c) (K m c) (V' m c) (Wo m c) (X m c) := by
  refine (dats m 0 c).arrAt_eq_of_covers 5 _ (by decide +kernel) fun t _ y => ?_
  blk_simp
  rw [after0_5]
  obtain ⟨i, j, rfl⟩ : ∃ (i : Fin 512) (j : Fin 2048), y = ix2 i j := ⟨y 0, y 1, by ext a; fin_cases a <;> rfl⟩
  have ht : t.val < 16 := t.isLt
  refine Eq.trans (b := attnRef (Q m c) (K m c) (V' m c) (Wo m c) (X m c) (ix2 ⟨512 * t.val + i.val, by omega⟩ j)) ?_
    (congrArg (attnRef (Q m c) (K m c) (V' m c) (Wo m c) (X m c)) ?_)
  · rw [attnRef_at]
    refine (out_at m c t ht i j).trans (congrArg₂ (fun a b : EReal => a + b) ?_ (Fin.sum_fin_congr fun k => congrArg₂ (fun a b : EReal => a * b) (congrArg (attended (Q m c) (K m c) (V' m c)) ?_) ?_))
    · blk_point [iblk, V, idx t]
    · blk_ext []
    · blk_point [iblk, V, idx t]
  · blk_ext [idx t]

end Cert.Kernel4Ideal.Attn

end
-- ==== Proof.AttnClaim.lean ====
module

public import proofs.«01_k».proof.Defs
public import proofs.«01_k».proof.Proof.AttnValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The attention over the memory: over the extended reals the kernel and its reference compute the same function. -/
theorem attn_algebraic : Cert.algebraic_Kernel4Ideal_Reference4Ideal := by
  pair_intro
  · run_from Cert.Kernel4Ideal.Gen.run_main m g
  · hlo_run
    exact (Cert.Kernel4Ideal.Attn.final5 m c).symm

end Cert.Proof

end
-- ==== Proof.PostRef.lean ====
/- The call after the mixers (`_post_mixer`): what its reference computes, element by element. -/
module

public import proofs.«01_k».proof.Proof.Gen.Reference5Ideal.Run
public import Idealize.ShloMosaic.Lib.Pipeline.ValueKit

@[expose] public section

set_option maxRecDepth 16384

noncomputable section

namespace Cert.Reference5Ideal.Post

open Cert.Reference5Ideal Cert.Reference5Ideal.Gen Idealize.ShloMosaic Idealize.ShloMosaic.TcCoe Idealize.SL.Sem

/-- The reference's residual stream after the mixers. -/
def stream (P Q : FVec Ideal S4x2048x1024 .bf16) (Wo : FVec Ideal S1x2048x2048 .f32) (X : FVec Ideal S4x2048x2048 .f32) : FVec Ideal S4x2048x2048 .f32 :=
  addf X (Host.dotGeneral dot_S4x2048x2048_S2048x2048_S4x2048x2048_2_0_01_1_n_n none (concatenate S4x2048x2048 2 [⟨S4x2048x1024, (extf .f32 P bitsLt_bf16_f32)⟩, ⟨S4x2048x1024, (extf .f32 Q bitsLt_bf16_f32)⟩] concatenates_S4x2048x1024_S4x2048x1024_S4x2048x2048_d2) (shapeCast S2048x2048 Wo shapeCasts_S1x2048x2048_S2048x2048))

/-- The reference's normalised rows. -/
def normed (X : FVec Ideal S4x2048x2048 .f32) (G : FVec Ideal S1x2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ G shapeCasts_S1x2048_S2048)))

/-- The reference's first result. -/
def streamRef (P Q : FVec Ideal S4x2048x1024 .bf16) (Wo : FVec Ideal S1x2048x2048 .f32) (X : FVec Ideal S4x2048x2048 .f32) : FVec Ideal S8192x2048 .f32 :=
  shapeCast _ (stream P Q Wo X) shapeCasts_S4x2048x2048_S8192x2048

/-- The reference's second result. -/
def queryRef (P Q : FVec Ideal S4x2048x1024 .bf16) (Wo : FVec Ideal S1x2048x2048 .f32) (X : FVec Ideal S4x2048x2048 .f32)
    (G : FVec Ideal S1x2048 .f32) (Wq : FVec Ideal S1x2048x2048 .f32) : FVec Ideal S8192x2048 .bf16 :=
  truncf .bf16 (shapeCast S8192x2048 (Host.dotGeneral dot_S4x2048x2048_S2048x2048_S4x2048x2048_2_0_01_1_n_n none (normed (stream P Q Wo X) G) (shapeCast S2048x2048 Wq shapeCasts_S1x2048x2048_S2048x2048)) shapeCasts_S4x2048x2048_S8192x2048) bitsLt_bf16_f32

/-- The residual stream: the two mixers' halves each times their half of the output weights. -/
theorem stream_at (P Q : FVec Ideal S4x2048x1024 .bf16) (Wo : FVec Ideal S1x2048x2048 .f32) (X : FVec Ideal S4x2048x2048 .f32)
    (b : Fin 4) (r : Fin 2048) (j : Fin 2048) :
    stream P Q Wo X (ix3 b r j) = X (ix3 b r j) + ((∑ k : Fin 1024, P (ix3 b r k) * Wo (ix3 0 ⟨k.val, by omega⟩ j))
      + ∑ k : Fin 1024, Q (ix3 b r k) * Wo (ix3 0 ⟨1024 + k.val, by omega⟩ j)) := by
  pointwise [stream]

/-- A normalised row. -/
theorem normed_at (X : FVec Ideal S4x2048x2048 .f32) (G : FVec Ideal S1x2048 .f32) (b : Fin 4) (r : Fin 2048) (j : Fin 2048) :
    normed X G (ix3 b r j) = X (ix3 b r j) * Ideal.rsqrt (Ideal.div (∑ k : Fin 2048, X (ix3 b r k) * X (ix3 b r k)) (Scalar.ofBits .f32 0x45000000#32 : Ideal .f32)
      + (Scalar.ofBits .f32 0x358637BD#32 : Ideal .f32)) * G (ix2 0 j) := by
  pointwise [normed]

theorem streamRef_at (P Q : FVec Ideal S4x2048x1024 .bf16) (Wo : FVec Ideal S1x2048x2048 .f32) (X : FVec Ideal S4x2048x2048 .f32)
    (i : Fin 8192) (j : Fin 2048) : streamRef P Q Wo X (ix2 i j) = stream P Q Wo X (ix3 ⟨i.val / 2048, by omega⟩ ⟨i.val % 2048, by omega⟩ j) := by
  pointwise [streamRef]

theorem queryRef_at (P Q : FVec Ideal S4x2048x1024 .bf16) (Wo : FVec Ideal S1x2048x2048 .f32) (X : FVec Ideal S4x2048x2048 .f32)
    (G : FVec Ideal S1x2048 .f32) (Wq : FVec Ideal S1x2048x2048 .f32) (i : Fin 8192) (j : Fin 2048) :
    queryRef P Q Wo X G Wq (ix2 i j) = ∑ k : Fin 2048, normed (stream P Q Wo X) G (ix3 ⟨i.val / 2048, by omega⟩ ⟨i.val % 2048, by omega⟩ k) * Wq (ix3 0 k j) := by
  pointwise [queryRef]

end Cert.Reference5Ideal.Post

end
-- ==== Proof.PostValue.lean ====
/- The call after the mixers (`_post_mixer`): its two result arrays are the reference's, element by element. -/
module

public import proofs.«01_k».proof.Proof.Gen.Kernel5Ideal.Frame
public import proofs.«01_k».proof.Proof.PostRef

@[expose] public section

set_option maxRecDepth 16384

noncomputable section

namespace Cert.Kernel5Ideal.Post

open Cert.Kernel5Ideal Cert.Kernel5Ideal.Gen Idealize.ShloMosaic Idealize.ShloMosaic.TcCoe Idealize.SL.Sem
open Idealize.ShloMosaic.Pipeline (Dat)
open Cert.Reference5Ideal.Post

variable (m : (ℓ : Loc nD τ sig) → Buf (Elt Ideal) ℓ)

/-- The blocks' places: 512 rows a point, the weights and the gain whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

abbrev P (c : Dev nD) : FVec Ideal S4x2048x1024 .bf16 := m ((c.tc : Thread nD τ).loc main_arg0)
abbrev Q (c : Dev nD) : FVec Ideal S4x2048x1024 .bf16 := m ((c.tc : Thread nD τ).loc main_arg1)
abbrev Wo (c : Dev nD) : FVec Ideal S1x2048x2048 .f32 := m ((c.tc : Thread nD τ).loc main_arg2)
abbrev X (c : Dev nD) : FVec Ideal S4x2048x2048 .f32 := m ((c.tc : Thread nD τ).loc main_arg3)
abbrev G (c : Dev nD) : FVec Ideal S1x2048 .f32 := m ((c.tc : Thread nD τ).loc main_arg4)
abbrev Wq (c : Dev nD) : FVec Ideal S1x2048x2048 .f32 := m ((c.tc : Thread nD τ).loc main_arg5)

/-- The first stored value. -/
theorem pay1_at (wo : FVec Ideal S2048x2048 .bf16) (x : FVec Ideal S512x2048 .f32) (p q : FVec Ideal S512x1024 .bf16) (i : Fin 512) (j : Fin 2048) :
    k0_pay1 (F := Ideal) wo x p q (ix2 i j) = x (ix2 i j) + ((∑ k : Fin 1024, p (ix2 i k) * wo (ix2 ⟨k.val, by omega⟩ j))
      + ∑ k : Fin 1024, q (ix2 i k) * wo (ix2 ⟨1024 + k.val, by omega⟩ j)) := by
  pointwise [k0_pay1]

/-- The second stored value: the normalised rows of the first times the query weights. -/
theorem pay2_at (wo : FVec Ideal S2048x2048 .bf16) (x : FVec Ideal S512x2048 .f32) (p q : FVec Ideal S512x1024 .bf16)
    (g : FVec Ideal S1x2048 .f32) (wq : FVec Ideal S2048x2048 .bf16) (i : Fin 512) (j : Fin 2048) :
    k0_pay2 (F := Ideal) wo x p q g wq (ix2 i j) = ∑ k : Fin 2048, k0_pay1 (F := Ideal) wo x p q (ix2 i k)
      * Ideal.rsqrt (Ideal.div (∑ l : Fin 2048, k0_pay1 (F := Ideal) wo x p q (ix2 i l) * k0_pay1 (F := Ideal) wo x p q (ix2 i l)) (Scalar.ofBits .f32 0x45000000#32 : Ideal .f32)
      + (Scalar.ofBits .f32 0x358637BD#32 : Ideal .f32)) * g (ix2 0 k) * wq (ix2 k j) := by
  pointwise [k0_pay2]

/-- The first stored value at point `t` is the reference's stream at the point's rows. -/
theorem stream_pt (c : Dev nD) (t : Fin cfg0.N) (i : Fin 512) (j : Fin 2048) (h1) (h2) :
    k0_pay1 (F := Ideal) (iblk m c 3 t) (iblk m c 2 t) (iblk m c 0 t) (iblk m c 1 t) (ix2 i j)
      = stream (P m c) (Q m c) (Wo m c) (X m c) (ix3 ⟨(512 * t.val + i.val) / 2048, h1⟩ ⟨(512 * t.val + i.val) % 2048, h2⟩ j) := by
  rw [pay1_at, stream_at]
  blk_point [iblk, V, idx t]

/-- The first result array. -/
theorem final6 (c : Dev nD) : (dats m 0 c).arrAt 6 (cfgs 0).N = streamRef (P m c) (Q m c) (Wo m c) (X m c) := by
  refine (dats m 0 c).arrAt_eq_of_covers 6 _ (by decide +kernel) fun t _ y => ?_
  blk_simp
  rw [after0_6]; frame_out
  obtain ⟨i, j, rfl⟩ : ∃ (i : Fin 512) (j : Fin 2048), y = ix2 i j := ⟨y 0, y 1, by ext a; fin_cases a <;> rfl⟩
  have ht : t.val < 16 := t.isLt
  refine Eq.trans (b := streamRef (P m c) (Q m c) (Wo m c) (X m c) (ix2 ⟨512 * t.val + i.val, by omega⟩ j)) ?_ (congrArg (streamRef (P m c) (Q m c) (Wo m c) (X m c)) ?_)
  · rw [streamRef_at]; exact stream_pt m c t i j _ _
  · blk_ext [idx t]

/-- The second result array. -/
theorem final7 (c : Dev nD) : (dats m 0 c).arrAt 7 (cfgs 0).N = queryRef (P m c) (Q m c) (Wo m c) (X m c) (G m c) (Wq m c) := by
  refine (dats m 0 c).arrAt_eq_of_covers 7 _ (by decide +kernel) fun t _ y => ?_
  blk_simp
  rw [after0_7]; frame_out
  obtain ⟨i, j, rfl⟩ : ∃ (i : Fin 512) (j : Fin 2048), y = ix2 i j := ⟨y 0, y 1, by ext a; fin_cases a <;> rfl⟩
  have ht : t.val < 16 := t.isLt
  refine Eq.trans (b := queryRef (P m c) (Q m c) (Wo m c) (X m c) (G m c) (Wq m c) (ix2 ⟨512 * t.val + i.val, by omega⟩ j)) ?_ (congrArg (queryRef (P m c) (Q m c) (Wo m c) (X m c) (G m c) (Wq m c)) ?_)
  · rw [queryRef_at, pay2_at]
    simp only [stream_pt m c t i _ (by omega) (by omega), normed_at]
    blk_point [iblk, V, idx t]
  · blk_ext [idx t]

end Cert.Kernel5Ideal.Post

end
-- ==== Proof.PostClaim.lean ====
module

public import proofs.«01_k».proof.Defs
public import proofs.«01_k».proof.Proof.PostValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The part after the mixers: over the extended reals the kernel and its reference compute the same function. -/
theorem post_algebraic : Cert.algebraic_Kernel5Ideal_Reference5Ideal := by
  pair_intro
  · run_from Cert.Kernel5Ideal.Gen.run_main m g
  · hlo_run
    · exact (Cert.Kernel5Ideal.Post.final6 m c).symm
    · exact (Cert.Kernel5Ideal.Post.final7 m c).symm

end Cert.Proof

end
-- ==== Proof.InProjRuns.lean ====
/- The input projection (`_in_proj`): what one execution of its body leaves in the two output buffers and in the carried
   rows, in each of the two cases of the grid point. -/
module

public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Claim
public import Idealize.ShloMosaic.Lib.Ring
public import Idealize.ShloMosaic.Lib.VecWindow
public import Idealize.ShloMosaic.Lib.WordCmp

@[expose] public section

set_option maxRecDepth 16384

noncomputable section

namespace Cert.Kernel6Ideal.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows are normalised at the first of the four points of each block of rows. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

set_option maxHeartbeats 1000000 in
/-- The first point of a block of rows: the body normalises the rows, keeps them, writes their product with the gate columns
    and their product with the point's columns. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole)
    (hc : k0_cond1 i = 1#1) (x0 : Vec F S1024x2048 .f32) (x1 : Vec F S1x2048 .f32) (x2 : Vec F S2048x2048 .bf16) (x3 : Vec F S2048x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, harg4.read_unread]
    delta body_first.sl.v3
    delta body_first.sl.HS_1
    rw [View.readAt_full, View.readAt_full, harg2.read_unread, harg3.read_unread]
    exact congrArg (fun x => k0_pay4 x x2) (View.readCov_full ..)
  isplitl [H5]
  · iexists _; isplitr; swap; · iexact H5
    ipureintro
    rw [View.read_writes_full, View.readAt_full, View.readAt_full, View.readAt_full, harg2.read_unread, harg3.read_unread, harg5.read_unread]
  iexists _; isplitr; swap; · iexact HS
  ipureintro
  delta body_first.sl.HS_1
  rw [View.read_writes_full, View.readAt_full, View.readAt_full, harg2.read_unread, harg3.read_unread]

set_option maxHeartbeats 1000000 in
/-- A later point of the block of rows: the body writes the product of the kept rows with the point's columns and leaves the
    other output alone. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole)
    (hc : ¬k0_cond1 i = 1#1) (x2 : Vec F S2048x2048 .bf16) (xs : Vec F S1024x2048 .bf16)
    (E : Set ℕ) (K : PUnit → sProp 𝕄) :
    iprop(owns (c : Thread nD τ) arg4 fullShare x2 ∗ (∃ d, owns (c : Thread nD τ) arg6 fullShare d) ∗ owns (c : Thread nD τ) arg8 fullShare xs
        ∗ (iprop(owns (c : Thread nD τ) arg4 fullShare x2 ∗ owns (c : Thread nD τ) arg6 fullShare (k0_pay4 xs x2) ∗ owns (c : Thread nD τ) arg8 fullShare xs) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%d4, %f4, -, H4⟩, ⟨%fs, %hfs, HS⟩, Hk⟩
  obtain rfl := harg4.eq_unread hf2; obtain rfl := harg8.eq_unread hfs
  sl_exec (disch := first | sl_exact hc)
  sl_step
  iapply Hk
  isplitl [H2]
  · iexists _; isplitr; · ipureintro; exact harg4.read_unread _
    iexact H2
  isplitl [H4]
  · iexists _; isplitr; swap; · iexact H4
    ipureintro
    rw [View.read_writes_full, View.readAt_full, View.readAt_full, harg8.read_unread, harg4.read_unread]
  iexists _; isplitr; · ipureintro; exact harg8.read_unread _
  iexact HS

end Cert.Kernel6Ideal.InProj

end
-- ==== Proof.InProjFrame.lean ====
/- The input projection (`_in_proj`): its run. Every execution ends with the two result arrays at what the grid's points wrote
   into them and the arguments unchanged. -/
module

public import proofs.«01_k».proof.Proof.InProjRuns
public import Idealize.ShloMosaic.Lib.Pipeline.TableIdle

@[expose] public section

set_option maxRecDepth 16384

noncomputable section

namespace Cert.Kernel6Ideal.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows kept after point `n`: normalised at the first point of each block of rows, carried at the others. -/
def rows (c : Dev nD) : (n : ℕ) → n < cfg0.N → Vec F S1024x2048 .bf16
  | 0, hn => k0_pay2 (iblk m c 0 ⟨0, hn⟩) (iblk m c 1 ⟨0, hn⟩)
  | n + 1, hn => if (n + 1) % 4 = 0 then k0_pay2 (iblk m c 0 ⟨n + 1, hn⟩) (iblk m c 1 ⟨n + 1, hn⟩) else rows c n (Nat.lt_of_succ_lt hn)

/-- The gate columns after point `n`: written at the first point of each block of rows, kept at the others. -/
def gates (c : Dev nD) : (n : ℕ) → n < cfg0.N → Vec F S1024x128 .f32
  | 0, hn => k0_pay3 (iblk m c 0 ⟨0, hn⟩) (iblk m c 1 ⟨0, hn⟩) (iblk m c 3 ⟨0, hn⟩)
  | n + 1, hn => if (n + 1) % 4 = 0 then k0_pay3 (iblk m c 0 ⟨n + 1, hn⟩) (iblk m c 1 ⟨n + 1, hn⟩) (iblk m c 3 ⟨n + 1, hn⟩)
      else gates c n (Nat.lt_of_succ_lt hn)

/-- The point before `t`. -/
theorem pred_lt (t : Fin cfg0.N) : t.val - 1 < cfg0.N := Nat.lt_of_le_of_lt (Nat.sub_le _ _) t.isLt

/-- The kept rows at the first point of a block of rows. -/
theorem rows_first (c : Dev nD) (t : Fin cfg0.N) (h : t.val % 4 = 0) : rows m c t.val t.isLt = k0_pay2 (iblk m c 0 t) (iblk m c 1 t) := by
  obtain ⟨n, hn⟩ := t
  cases n with
  | zero => rfl
  | succ n => exact if_pos h

/-- The kept rows at a later point. -/
theorem rows_later (c : Dev nD) (t : Fin cfg0.N) (h : ¬t.val % 4 = 0) : rows m c t.val t.isLt = rows m c (t.val - 1) (pred_lt t) := by
  obtain ⟨n, hn⟩ := t
  cases n with
  | zero => exact absurd (Nat.zero_mod _) h
  | succ n => exact if_neg h

/-- The gate columns at the first point of a block of rows. -/
theorem gates_first (c : Dev nD) (t : Fin cfg0.N) (h : t.val % 4 = 0) :
    gates m c t.val t.isLt = k0_pay3 (iblk m c 0 t) (iblk m c 1 t) (iblk m c 3 t) := by
  obtain ⟨n, hn⟩ := t
  cases n with
  | zero => rfl
  | succ n => exact if_pos h

/-- The gate columns at a later point. -/
theorem gates_later (c : Dev nD) (t : Fin cfg0.N) (h : ¬t.val % 4 = 0) : gates m c t.val t.isLt = gates m c (t.val - 1) (pred_lt t) := by
  obtain ⟨n, hn⟩ := t
  cases n with
  | zero => exact absurd (Nat.zero_mod _) h
  | succ n => exact if_neg h

/-- The kept rows as a buffer of the kernel's own. -/
abbrev kept : Memref sig .tc .vmem S1024x2048 .bf16 := Memref.whole cc0_scratch0

/-- What holds before point `n`: the kept rows at what the point before left (at anything before the first point), and the
    generator's state. -/
def inv (c : Dev nD) : (n : ℕ) → n ≤ cfg0.N → sProp 𝕄
  | 0, _ => Pipeline.ΦA spec0 c
  | n + 1, hn => iprop(owns (c : Thread nD τ) kept fullShare (rows m c n hn) ∗ (∃ r, prngReg c r))

/-- Before the first point. -/
theorem inv_zero (c : Dev nD) (n : ℕ) (h : n ≤ cfg0.N) (hz : n = 0) : inv m c n h = Pipeline.ΦA spec0 c := by
  subst hz; rfl

/-- Before a later point. -/
theorem inv_pos (c : Dev nD) (n : ℕ) (h : n ≤ cfg0.N) (hz : n ≠ 0) :
    inv m c n h = iprop(owns (c : Thread nD τ) kept fullShare (rows m c (n - 1) (by omega)) ∗ (∃ r, prngReg c r)) := by
  cases n with
  | zero => exact absurd rfl hz
  | succ n => rfl

/-- What the launch hands over: the buffer of the kept rows at some contents and the generator's state. -/
theorem start_eq (c : Dev nD) :
    (Pipeline.ΦA spec0 c : sProp 𝕄) = iprop((∃ d, owns (c : Thread nD τ) kept fullShare d) ∗ (∃ r, prngReg c r)) := by
  unfold Pipeline.ΦA; rw [scopedRest0_eq]; simp only [kept, owns_whole]; try rfl

/-- At any point what holds gives the kept rows' buffer at some contents. -/
theorem inv_out (c : Dev nD) (n : ℕ) (h : n ≤ cfg0.N) : inv m c n h ⊢ (Pipeline.ΦA spec0 c : sProp 𝕄) := by
  by_cases hz : n = 0
  · rw [inv_zero m c n h hz]
  · rw [inv_pos m c n h hz, start_eq]
    iintro ⟨HS, Hg⟩
    isplitl [HS]
    · iexists _; iexact HS
    iexact Hg

/-- What the region's buffers hold after each point: the inputs their blocks, the first output the product of the kept rows
    with the point's columns, the second the gate columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t.val t.isLt) (iblk m c 2 t)
    | ⟨5, _⟩ => gates m c t.val t.isLt
  Φ t := inv m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

/-- What holds when a point starts. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- What the first input's buffer holds after a point. -/
theorem after0_0 (c : Dev nD) (t : Fin cfg0.N) : (dats m 0 c).after 0 t = iblk m c 0 t := by dsimp only [dats]
/-- What the second input's buffer holds after a point. -/
theorem after0_1 (c : Dev nD) (t : Fin cfg0.N) : (dats m 0 c).after 1 t = iblk m c 1 t := by dsimp only [dats]
/-- What the third input's buffer holds after a point. -/
theorem after0_2 (c : Dev nD) (t : Fin cfg0.N) : (dats m 0 c).after 2 t = iblk m c 2 t := by dsimp only [dats]
/-- What the fourth input's buffer holds after a point. -/
theorem after0_3 (c : Dev nD) (t : Fin cfg0.N) : (dats m 0 c).after 3 t = iblk m c 3 t := by dsimp only [dats]
/-- What the first output's buffer holds after a point. -/
theorem after0_4 (c : Dev nD) (t : Fin cfg0.N) : (dats m 0 c).after 4 t = k0_pay4 (rows m c t.val t.isLt) (iblk m c 2 t) := by dsimp only [dats]
/-- What the second output's buffer holds after a point. -/
theorem after0_5 (c : Dev nD) (t : Fin cfg0.N) : (dats m 0 c).after 5 t = gates m c t.val t.isLt := by dsimp only [dats]

/-- The first input's buffer holds its block when the body runs. -/
theorem before0_0 (c : Dev nD) (t : Fin cfg0.N) (d) : (dats m 0 c).before 0 t d = iblk m c 0 t :=
  before0_0_of m (dats m 0 c) (A_eq m c 0) (after0_0 m c) t d
/-- The second input's buffer holds its block when the body runs. -/
theorem before0_1 (c : Dev nD) (t : Fin cfg0.N) (d) : (dats m 0 c).before 1 t d = iblk m c 1 t :=
  before0_1_of m (dats m 0 c) (A_eq m c 1) (after0_1 m c) t d
/-- The third input's buffer holds its block when the body runs. -/
theorem before0_2 (c : Dev nD) (t : Fin cfg0.N) (d) : (dats m 0 c).before 2 t d = iblk m c 2 t :=
  before0_2_of m (dats m 0 c) (A_eq m c 2) (after0_2 m c) t d
/-- The fourth input's buffer holds its block when the body runs. -/
theorem before0_3 (c : Dev nD) (t : Fin cfg0.N) (d) : (dats m 0 c).before 3 t d = iblk m c 3 t :=
  before0_3_of m (dats m 0 c) (A_eq m c 3) (after0_3 m c) t d

/-- Only at the first point of a block of rows does the second output's buffer hold nothing the body stored. -/
theorem fresh5 (n : ℕ) (h : n ≤ cfg0.N) : cfg0.fresh 5 n = decide (n % 4 = 0) :=
  Pipeline.Cfg.fresh_tab cfg0 5 (fun n => decide (n % 4 = 0)) rfl
    (by decide +kernel : ∀ t : Fin grid0.N, decide ((t.val + 1) % 4 = 0)
      = ((cfg0.win 5).flush t || (cfg0.idle 5 (grid0.coords t) && decide (t.val % 4 = 0)))) n h

/-- At the first point of a block of rows the second output is stored. -/
theorem live5 : ∀ t : Fin cfg0.N, cfg0.idle 5 (grid0.coords t) = !decide (t.val % 4 = 0) :=
  (by decide +kernel : ∀ t : Fin grid0.N, cfg0.idle 5 (grid0.coords t) = !decide (t.val % 4 = 0))

/-- The first output is written at every point. -/
theorem live4 : ∀ t : Fin cfg0.N, cfg0.idle 4 (grid0.coords t) = false :=
  (by decide +kernel : ∀ t : Fin grid0.N, cfg0.idle 4 (grid0.coords t) = false)

/-- At a later point of a block of rows the second output's buffer holds the gate columns when the body runs. -/
theorem before0_5 (c : Dev nD) (t : Fin cfg0.N) (ht : ¬t.val % 4 = 0) (d) : (dats m 0 c).before 5 t d = gates m c t.val t.isLt := by
  rw [(dats m 0 c).before_out_traj 5 rfl (fun _ _ => rfl) (fun t _ hi _ => by
      rw [after0_5, after0_5]
      exact gates_later m c t fun h => by rw [show cfg0.idle 5 (cfg0.grid.coords t) = false from (live5 t).trans (by rw [decide_eq_true h]; rfl)] at hi; exact Bool.false_ne_true hi) t.val t rfl d,
    fresh5 t.val (Nat.le_of_lt t.isLt), if_neg (by simp only [decide_eq_true_eq]; exact ht), after0_5, gates_later m c t ht]

/-- The buffers the body is called with at point `t`. -/
abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x2048 .bf16 := win0_2.stage (cfg0.slots t 2)
abbrev ms0_3 (t : Fin cfg0.N) : Memref sig .tc .vmem S2048x128 .bf16 := win0_3.stage (cfg0.slots t 3)
abbrev ms0_4 (t : Fin cfg0.N) : Memref sig .tc .vmem S1024x2048 .bf16 := win0_4.stage (cfg0.slots t 4)
abbrev ms0_5 (t : Fin cfg0.N) : Memref sig .tc .vmem S1024x128 .f32 := win0_5.stage (cfg0.slots t 5)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The second output's buffer at the gate columns is what a later point hands back, though the body stores nothing there. -/
theorem leaves5 (c : Dev nD) (t : Fin cfg0.N) (h : ¬t.val % 4 = 0) :
    owns (c : Thread nD τ) (ms0_5 t) fullShare (gates m c t.val t.isLt) ⊢ ((dats m 0 c).leavesExact 5 t : sProp 𝕄) := by
  unfold Dat.leavesExact
  cases cfg0.idle 5 (cfg0.grid.coords t)
  · exact BIBase.Entails.of_eq (by rw [after0_5])
  · cases (cfg0.win 5).flush t
    · dsimp only
      iintro H
      iexists gates m c t.val t.isLt
      rw [before0_5 m c t h]
      iexact H
    · exact BIBase.Entails.of_eq (by rw [after0_5])

set_option maxHeartbeats 1600000 in
/-- The body at any point: from the windows' buffers as the point finds them to the buffers at what `dats` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = iprop(owns (c : Thread nD τ) kept fullShare (rows m c t.val t.isLt) ∗ (∃ r, prngReg c r)) from rfl,
    show (dats m 0 c).owesAt () t.succ = (dats m 0 c).owesAt () t.castSucc from rfl,
    show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from rfl, after0_2,
    show (dats m 0 c).leavesExact 3 t = owns (c : Thread nD τ) (ms0_3 t) fullShare ((dats m 0 c).after 3 t) from rfl, after0_3,
    show (dats m 0 c).leavesExact 4 t = owns (c : Thread nD τ) (ms0_4 t) fullShare ((dats m 0 c).after 4 t) from by
      unfold Dat.leavesExact; rw [live4 t], after0_4, inv_castSucc]
  by_cases h0 : t.val % 4 = 0
  · rw [show (dats m 0 c).leavesExact 5 t = owns (c : Thread nD τ) (ms0_5 t) fullShare ((dats m 0 c).after 5 t) from by
      unfold Dat.leavesExact; rw [show cfg0.idle 5 (cfg0.grid.coords t) = false from (live5 t).trans (by rw [decide_eq_true h0]; rfl)],
      after0_5, rows_first m c t h0, gates_first m c t h0]
    refine BIBase.Entails.trans (BIClass.sep_mono (inv_out m c _ _) .rfl) ?_
    rw [start_eq]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ ((cond_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_pos m c _ _ (fun h => h0 (by rw [h])), rows_later m c t h0]
    simp only [before0_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (fun h => h0 ((cond_iff t).mp h)) (iblk m c 2 t) _ Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t h0)
    iexact H5

/-- The pipeline's body at a point is the printed body at that point's buffers. -/
theorem defs₀_row (t : Fin cfg0.N) :
    defs₀ (F := F) .tc cfg0.body (cfg0.bodyArgs t (cfg0.slots t)) = bodyAt0 t := by
  unfold defs₀; rw [Defs.onTc_tc]

/-- The body does at every point what `dats` says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point. -/
theorem hin (c : Dev nD) : Pipeline.ΦA spec0 c ⊢ (dats m 0 c).Φ 0 := by
  rw [show (dats m 0 c).Φ 0 = inv m c 0 (Nat.zero_le _) from rfl, inv_zero m c 0 _ rfl]

/-- What holds after the last point gives it back. -/
theorem hout (c : Dev nD) : (dats m 0 c).Φ (Fin.last cfg0.N) ⊢ Pipeline.ΦA spec0 c :=
  show inv m c (Fin.last cfg0.N).val (Nat.le_of_lt_succ (Fin.last cfg0.N).isLt) ⊢ Pipeline.ΦA spec0 c from inv_out m c _ _

set_option backward.isDefEq.respectTransparency.types false in
/-- The run: every execution ends with each array of the region at what `dats` computes, every other buffer as the region
    found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel6Ideal.InProj

end
-- ==== Proof.InProjRef.lean ====
/- The input projection (`_in_proj`): the reference's two results, element by element. -/
module

public import proofs.«01_k».proof.Proof.Gen.Reference6Ideal.Run
public import Idealize.ShloMosaic.Lib.Pipeline.ValueKit

@[expose] public section

set_option maxRecDepth 16384

noncomputable section

namespace Cert.Reference6Ideal.InProj

open Cert.Reference6Ideal Cert.Reference6Ideal.Gen Idealize.ShloMosaic Idealize.ShloMosaic.TcCoe Idealize.SL.Sem

/-- The reference's normalised rows. -/
def normed (X : FVec Ideal S4x2048x2048 .f32) (G : FVec Ideal S1x2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ G shapeCasts_S1x2048_S2048)))

/-- The reference's first result: the projected columns. -/
def mainRef (X : FVec Ideal S4x2048x2048 .f32) (G : FVec Ideal S1x2048 .f32) (W : FVec Ideal S2048x8192 .bf16) : FVec Ideal S8192x8192 .bf16 :=
  truncf .bf16 (shapeCast S8192x8192 (Host.dotGeneral dot_S4x2048x2048_S2048x8192_S4x2048x8192_2_0_01_1_n_n none (normed X G) (extf .f32 W bitsLt_bf16_f32)) shapeCasts_S4x2048x8192_S8192x8192) bitsLt_bf16_f32

/-- The reference's second result: the gate columns. -/
def gateRef (X : FVec Ideal S4x2048x2048 .f32) (G : FVec Ideal S1x2048 .f32) (B : FVec Ideal S2048x128 .bf16) : FVec Ideal S8192x128 .f32 :=
  shapeCast S8192x128 (Host.dotGeneral dot_S4x2048x2048_S2048x128_S4x2048x128_2_0_01_1_n_n none (normed X G) (extf .f32 B bitsLt_bf16_f32)) shapeCasts_S4x2048x128_S8192x128

/-- Each element of the first result is a normalised row times a column of the weights. -/
theorem mainRef_at (X : FVec Ideal S4x2048x2048 .f32) (G : FVec Ideal S1x2048 .f32) (W : FVec Ideal S2048x8192 .bf16) (i j : Fin 8192) :
    mainRef X G W (ix2 i j) = ∑ k : Fin 2048, normed X G (ix3 ⟨i.val / 2048, by omega⟩ ⟨i.val % 2048, by omega⟩ k) * W (ix2 k j) := by
  pointwise [mainRef]

/-- Each element of the second result is a normalised row times a column of the gate weights. -/
theorem gateRef_at (X : FVec Ideal S4x2048x2048 .f32) (G : FVec Ideal S1x2048 .f32) (B : FVec Ideal S2048x128 .bf16) (i : Fin 8192) (j : Fin 128) :
    gateRef X G B (ix2 i j) = ∑ k : Fin 2048, normed X G (ix3 ⟨i.val / 2048, by omega⟩ ⟨i.val % 2048, by omega⟩ k) * B (ix2 k j) := by
  pointwise [gateRef]

end Cert.Reference6Ideal.InProj

end
-- ==== Proof.InProjValue.lean ====
/- The input projection (`_in_proj`): its two result arrays are the reference's, element by element. -/
module

public import proofs.«01_k».proof.Proof.InProjFrame
public import proofs.«01_k».proof.Proof.InProjRef

@[expose] public section

set_option maxRecDepth 16384

noncomputable section

namespace Cert.Kernel6Ideal.InProj

open Cert.Kernel6Ideal Cert.Kernel6Ideal.Gen Idealize.ShloMosaic Idealize.ShloMosaic.TcCoe Idealize.SL.Sem
open Idealize.ShloMosaic.Pipeline (Dat)
open Cert.Reference6Ideal.InProj (normed mainRef mainRef_at gateRef gateRef_at)

variable (m : (ℓ : Loc nD τ sig) → Buf (Elt Ideal) ℓ)

/-- The blocks' places: four points to a block of rows, one to each block of columns. -/
theorem idx : ∀ t : Fin cfg0.N, win0_0.index t = ![t.val / 4, 0] ∧ win0_1.index t = ![0, 0] ∧ win0_2.index t = ![0, t.val % 4]
    ∧ win0_3.index t = ![0, 0] ∧ win0_4.index t = ![t.val / 4, t.val % 4] ∧ win0_5.index t = ![t.val / 4, 0] :=
  (by decide +kernel : ∀ t : Fin grid0.N, _)

/-- The argument arrays: the stream, the norm's gain, the weights and the gate weights. -/
abbrev X (c : Dev nD) : FVec Ideal S4x2048x2048 .f32 := m ((c.tc : Thread nD τ).loc main_arg0)
abbrev G (c : Dev nD) : FVec Ideal S1x2048 .f32 := m ((c.tc : Thread nD τ).loc main_arg1)
abbrev W (c : Dev nD) : FVec Ideal S2048x8192 .bf16 := m ((c.tc : Thread nD τ).loc main_arg2)
abbrev B (c : Dev nD) : FVec Ideal S2048x128 .bf16 := m ((c.tc : Thread nD τ).loc main_arg3)

/-- The block a point writes, element by element: the kept rows times the point's columns. -/
theorem pay4_at (x : FVec Ideal S1024x2048 .bf16) (w : FVec Ideal S2048x2048 .bf16) (i : Fin 1024) (j : Fin 2048) :
    k0_pay4 (F := Ideal) x w (ix2 i j) = ∑ k : Fin 2048, x (ix2 i k) * w (ix2 k j) := by
  pointwise [k0_pay4]

/-- The gate columns, element by element: the normalised rows times the gate weights. -/
theorem pay3_at (x : FVec Ideal S1024x2048 .f32) (g : FVec Ideal S1x2048 .f32) (b : FVec Ideal S2048x128 .bf16) (i : Fin 1024) (j : Fin 128) :
    k0_pay3 (F := Ideal) x g b (ix2 i j) = ∑ k : Fin 2048, k0_pay1 (F := Ideal) x g (ix2 i k) * b (ix2 k j) := by
  pointwise [k0_pay3]

/-- The kept rows are the normalised ones. -/
theorem pay2_eq (x : FVec Ideal S1024x2048 .f32) (g : FVec Ideal S1x2048 .f32) (i : Fin 1024) (k : Fin 2048) :
    k0_pay2 (F := Ideal) x g (ix2 i k) = k0_pay1 (F := Ideal) x g (ix2 i k) := by
  pointwise [k0_pay2]

/-- The place of row `i` of point `n`'s block among all rows. -/
def row (n : ℕ) (hn : n < 32) (i : Fin 1024) : Fin 8192 := ⟨1024 * (n / 4) + i.val, by omega⟩

/-- The reference's normalised row at a place among all rows. -/
def normedRow (c : Dev nD) (r : Fin 8192) (k : Fin 2048) : Ideal .f32 :=
  normed (X m c) (G m c) (ix3 ⟨r.val / 2048, by omega⟩ ⟨r.val % 2048, by omega⟩ k)

/-- The rows the body normalises at a point are the reference's. -/
theorem norm_at (c : Dev nD) (t : Fin cfg0.N) (i : Fin 1024) (k : Fin 2048) :
    k0_pay1 (F := Ideal) (iblk m c 0 t) (iblk m c 1 t) (ix2 i k) = normedRow m c (row t.val t.isLt i) k := by
  pointwise [k0_pay1, normedRow, normed, row]
  blk_point [iblk, V, idx t]

/-- A later point of a block of rows belongs to the same rows as the point before it. -/
theorem row_later (t : Fin cfg0.N) (h : ¬t.val % 4 = 0) (i : Fin 1024) :
    row (t.val - 1) (pred_lt t) i = row t.val t.isLt i := Fin.ext (by unfold row; dsimp only; omega)

/-- The kept rows are the reference's normalised rows. -/
theorem rows_at (c : Dev nD) (i : Fin 1024) (k : Fin 2048) : ∀ (n : ℕ) (hn : n < cfg0.N),
    (rows m c n hn : FVec Ideal S1024x2048 .bf16) (ix2 i k) = normedRow m c (row n hn i) k := by
  intro n
  induction n with
  | zero => intro hn; rw [rows_first m c ⟨0, hn⟩ rfl, pay2_eq]; exact norm_at m c _ i k
  | succ n ih =>
    intro hn
    by_cases h : (n + 1) % 4 = 0
    · rw [rows_first m c ⟨n + 1, hn⟩ h, pay2_eq]; exact norm_at m c _ i k
    · rw [rows_later m c ⟨n + 1, hn⟩ h, ← row_later ⟨n + 1, hn⟩ h]; exact ih _

/-- The gate columns a point writes are the reference's. -/
theorem gates_pay (c : Dev nD) (t : Fin cfg0.N) (i : Fin 1024) (j : Fin 128) :
    k0_pay3 (F := Ideal) (iblk m c 0 t) (iblk m c 1 t) (iblk m c 3 t) (ix2 i j) = gateRef (X m c) (G m c) (B m c) (ix2 (row t.val t.isLt i) j) := by
  rw [pay3_at, gateRef_at]
  refine Fin.sum_fin_congr fun k => ?_
  rw [norm_at]
  unfold normedRow
  blk_point [iblk, V, idx t]

/-- The gate columns are the reference's. -/
theorem gates_at (c : Dev nD) (i : Fin 1024) (j : Fin 128) : ∀ (n : ℕ) (hn : n < cfg0.N),
    (gates m c n hn : FVec Ideal S1024x128 .f32) (ix2 i j) = gateRef (X m c) (G m c) (B m c) (ix2 (row n hn i) j) := by
  intro n
  induction n with
  | zero => intro hn; rw [gates_first m c ⟨0, hn⟩ rfl]; exact gates_pay m c _ i j
  | succ n ih =>
    intro hn
    by_cases h : (n + 1) % 4 = 0
    · rw [gates_first m c ⟨n + 1, hn⟩ h]; exact gates_pay m c _ i j
    · rw [gates_later m c ⟨n + 1, hn⟩ h, ← row_later ⟨n + 1, hn⟩ h]; exact ih _

/-- The first result array. -/
theorem final4 (c : Dev nD) : (dats m 0 c).arrAt 4 (cfgs 0).N = mainRef (X m c) (G m c) (W m c) := by
  refine (dats m 0 c).arrAt_eq_of_covers 4 _ (by decide +kernel) fun t _ y => ?_
  blk_simp
  rw [after0_4]
  obtain ⟨i, j, rfl⟩ : ∃ (i : Fin 1024) (j : Fin 2048), y = ix2 i j := ⟨y 0, y 1, by ext a; fin_cases a <;> rfl⟩
  have ht : t.val < 32 := t.isLt
  refine Eq.trans (b := mainRef (X m c) (G m c) (W m c) (ix2 (row t.val ht i) ⟨2048 * (t.val % 4) + j.val, by omega⟩)) ?_ (congrArg (mainRef (X m c) (G m c) (W m c)) ?_)
  · rw [pay4_at, mainRef_at]
    refine Fin.sum_fin_congr fun k => ?_
    rw [rows_at]
    unfold normedRow
    blk_point [iblk, V, idx t]
  · unfold row
    blk_ext [idx t]

/-- The second result array. -/
theorem final5 (c : Dev nD) : (dats m 0 c).arrAt 5 (cfgs 0).N = gateRef (X m c) (G m c) (B m c) := by
  refine (dats m 0 c).arrAt_eq_of_covers 5 _ (by decide +kernel) fun t _ y => ?_
  blk_simp
  rw [after0_5]
  obtain ⟨i, j, rfl⟩ : ∃ (i : Fin 1024) (j : Fin 128), y = ix2 i j := ⟨y 0, y 1, by ext a; fin_cases a <;> rfl⟩
  have ht : t.val < 32 := t.isLt
  refine Eq.trans (b := gateRef (X m c) (G m c) (B m c) (ix2 (row t.val ht i) j)) ?_ (congrArg (gateRef (X m c) (G m c) (B m c)) ?_)
  · exact gates_at m c i j t.val t.isLt
  · unfold row
    blk_ext [idx t]

end Cert.Kernel6Ideal.InProj

end
-- ==== Proof.InProjClaim.lean ====
module

public import proofs.«01_k».proof.Defs
public import proofs.«01_k».proof.Proof.InProjValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The input projection: over the extended reals the kernel and its reference compute the same function. -/
theorem inProj_algebraic : Cert.algebraic_Kernel6Ideal_Reference6Ideal := by
  pair_intro
  · run_from Cert.Kernel6Ideal.InProj.run_main m g
  · hlo_run
    · exact (Cert.Kernel6Ideal.InProj.final4 m c).symm
    · exact (Cert.Kernel6Ideal.InProj.final5 m c).symm

end Cert.Proof

end
-- ==== Proof.RetParts.lean ====
/- The retention's kernel: the pieces that every sequence and head of a block has alike, element by element. -/
module

public import proofs.«01_k».proof.Proof.Gen.Kernel7Ideal.Skeleton
public import Idealize.ShloMosaic.Lib.Pipeline.ValueKit
public import Idealize.ShloMosaic.Lib.Pointwise
public import Idealize.ShloMosaic.Lib.ValueIdx

@[expose] public section

set_option maxRecDepth 16384

noncomputable section

namespace Cert.Kernel7Ideal.Ret

open Cert.Kernel7Ideal Cert.Kernel7Ideal.Gen Idealize.ShloMosaic Idealize.ShloMosaic.TcCoe Idealize.SL.Sem

/-- The logarithm of a head's decay, and its eighth power, as the kernel names them. -/
def lgK : ℕ → Ideal .f32
  | 0 => Named.named κ "log_gamma0" 0xBD020AEC#32
  | 1 => Named.named κ "log_gamma1" 0xBC8102B3#32
  | 2 => Named.named κ "log_gamma2" 0xBC0080AC#32
  | _ => Named.named κ "log_gamma3" 0xBB80402B#32

/-- The decay of each head over eight positions, as the kernel names it. -/
def g8K : ℕ → Ideal .f32
  | 0 => Named.named κ "gamma0" 0x3F469444#32
  | 1 => Named.named κ "gamma1" 0x3F61B245#32
  | 2 => Named.named κ "gamma2" 0x3F706E44#32
  | _ => Named.named κ "gamma3" 0x3F781BC8#32

/-- A position as a number. -/
theorem pos_real (u : Fin 8) : FloatOps.sitofp (F := Ideal) FTy.f32 (BitVec.ofNat 32 u.val) = (((u.val : ℝ) : ℝ) : EReal) := by
  have h : ∀ u : Fin 8, (BitVec.ofNat 32 u.val).toInt = u.val := by decide
  show ((((BitVec.ofNat 32 u.val).toInt : ℝ) : ℝ) : EReal) = _
  rw [h u]; rfl

/-- The distance of two positions as a number. -/
theorem dist_real (t u : Fin 8) : FloatOps.sitofp (F := Ideal) FTy.f32 (IntOp.subi (BitVec.ofNat 32 t.val) (BitVec.ofNat 32 u.val)) = (((t.val : ℝ) - (u.val : ℝ) : ℝ) : EReal) := by
  have h : ∀ t u : Fin 8, (IntOp.subi (BitVec.ofNat 32 t.val) (BitVec.ofNat 32 u.val)).toInt = (t.val : ℤ) - (u.val : ℤ) := by decide
  show ((((IntOp.subi (BitVec.ofNat 32 t.val) (BitVec.ofNat 32 u.val)).toInt : ℝ) : ℝ) : EReal) = _
  rw [h t u]; push_cast; rfl

/-- Which of two positions is earlier. -/
theorem causal (t u : Fin 8) : IntOp.cmpi CmpIPredicate.sge (BitVec.ofNat 32 t.val) (BitVec.ofNat 32 u.val) = if u.val ≤ t.val then 1#1 else 0#1 := by
  revert t u; decide

/-- The literal seven. -/
theorem seven : Ideal.ofBits FTy.f32 1088421888#32 = (((7 : ℝ) : ℝ) : EReal) := by
  simp [Ideal.ofBits, Ideal.ieee, -EReal.coe_mul]; norm_num

/-- The mask's literal is minus infinity. -/
theorem minus_inf : Ideal.ofBits FTy.f32 4286578688#32 = (⊥ : EReal) := by
  simp [Ideal.ofBits, Ideal.ieee]

/-- The pairs of one head turned, the even channels before the odd ones. -/
def rot (C S : FVec Ideal S8x128 .f32) (x : FVec Ideal S1x8x256 .f32) : FVec Ideal S8x256 .f32 :=
  concatenate S8x256 1
    [⟨S8x128, subf (mulf (extractStridedSlice S8x128 ![0, 0] (shapeCast S8x256 x shapeCasts_S1x8x256_S8x256) slices_S8x256_o0_0_S8x128) C) (mulf (extractStridedSlice S8x128 ![0, 128] (shapeCast S8x256 x shapeCasts_S1x8x256_S8x256) slices_S8x256_o0_128_S8x128) S)⟩,
     ⟨S8x128, addf (mulf (extractStridedSlice S8x128 ![0, 128] (shapeCast S8x256 x shapeCasts_S1x8x256_S8x256) slices_S8x256_o0_128_S8x128) C) (mulf (extractStridedSlice S8x128 ![0, 0] (shapeCast S8x256 x shapeCasts_S1x8x256_S8x256) slices_S8x256_o0_0_S8x128) S)⟩]
    concatenates_S8x128_S8x128_S8x256_d1

/-- The same, channel by channel of the kernel's order. -/
def rotE (C S : FVec Ideal S8x128 .f32) (x : FVec Ideal S1x8x256 .f32) (u : Fin 8) (s : Fin 256) : EReal :=
  if h : s.val < 128 then x (ix3 0 u ⟨s.val, by omega⟩) * C (ix2 u ⟨s.val, h⟩) - x (ix3 0 u ⟨128 + s.val, by omega⟩) * S (ix2 u ⟨s.val, h⟩)
  else x (ix3 0 u ⟨128 + (s.val - 128), by omega⟩) * C (ix2 u ⟨s.val - 128, by omega⟩) + x (ix3 0 u ⟨s.val - 128, by omega⟩) * S (ix2 u ⟨s.val - 128, by omega⟩)

/-- The turned rows, element by element. -/
theorem rot_at (C S : FVec Ideal S8x128 .f32) (x : FVec Ideal S1x8x256 .f32) (u : Fin 8) (s : Fin 256) : rot C S x (ix2 u s) = rotE C S x u s := by
  pointwise [rot, rotE]

/-- The keys of one head: turned and scaled. -/
def key (C S : FVec Ideal S8x128 .f32) (x : FVec Ideal S1x8x256 .f32) : FVec Ideal S8x256 .f32 :=
  mulf (rot C S x) (broadcast S8x256 (Scalar.ofBits .f32 0x3D800000#32))

/-- The queries decayed from the block's start. -/
def qdec (lg : Ideal .f32) (C S : FVec Ideal S8x128 .f32) (x : FVec Ideal S1x8x256 .f32) : FVec Ideal S8x256 .f32 :=
  mulf (rot C S x) (broadcastTo S8x256 (exp (mulf (addf (k0_pay6 (F := Ideal)) (broadcast S8x1 (Scalar.ofBits .f32 0x3F800000#32))) (broadcast S8x1 lg))) broadcasts_S8x1_S8x256)

/-- The keys decayed to the block's end. -/
def kdec (lg : Ideal .f32) (C S : FVec Ideal S8x128 .f32) (x : FVec Ideal S1x8x256 .f32) : FVec Ideal S8x256 .f32 :=
  mulf (key C S x) (broadcastTo S8x256 (exp (mulf (subf (broadcast S8x1 (Scalar.ofBits .f32 0x40E00000#32)) (k0_pay6 (F := Ideal))) (broadcast S8x1 lg))) broadcasts_S8x1_S8x256)

/-- The products of queries and keys within the block, decayed. -/
def scores (lg : Ideal .f32) (C S : FVec Ideal S8x128 .f32) (q k : FVec Ideal S1x8x256 .f32) : FVec Ideal S8x8 .bf16 :=
  truncf .bf16 (mulf (matmul dot_S8x256_S8x256_S8x8_1_1_0_0_n_n none (truncf .bf16 (rot C S q) bitsLt_bf16_f32) (truncf .bf16 (key C S k) bitsLt_bf16_f32) (constant S8x8 .f32 0x00000000#32))
    (exp (select (k0_pay4) (mulf (k0_pay5 (F := Ideal)) (broadcast S8x8 lg)) (broadcast S8x8 (Scalar.ofBits .f32 0xFF800000#32))))) bitsLt_bf16_f32

/-- The values of one head. -/
def vals (x : FVec Ideal S1x8x256 .f32) : FVec Ideal S8x256 .bf16 :=
  truncf .bf16 (shapeCast S8x256 x shapeCasts_S1x8x256_S8x256) bitsLt_bf16_f32

/-- The keys are turned rows times the scale. -/
theorem key_at (C S : FVec Ideal S8x128 .f32) (x : FVec Ideal S1x8x256 .f32) (u : Fin 8) (s : Fin 256) :
    key C S x (ix2 u s) = rotE C S x u s * (Scalar.ofBits .f32 0x3D800000#32 : Ideal .f32) := by
  simp only [← rot_at]
  pointwise [key]

/-- A decayed query is the turned row times the exponential of its position plus one, times the logarithm. -/
theorem qdec_at (lg : Ideal .f32) (C S : FVec Ideal S8x128 .f32) (x : FVec Ideal S1x8x256 .f32) (u : Fin 8) (s : Fin 256) :
    qdec lg C S x (ix2 u s) = rotE C S x u s * Ideal.exp (((u.val : ℝ) + (1 : ℝ) : ℝ) * lg) := by
  simp only [← rot_at]
  pointwise [qdec, k0_pay6]
  rw [pos_real, EReal.coe_add, EReal.coe_one]

/-- A decayed key is the turned, scaled row times the exponential of its distance to the last position, times the logarithm. -/
theorem kdec_at (lg : Ideal .f32) (C S : FVec Ideal S8x128 .f32) (x : FVec Ideal S1x8x256 .f32) (u : Fin 8) (s : Fin 256) :
    kdec lg C S x (ix2 u s) = rotE C S x u s * (Scalar.ofBits .f32 0x3D800000#32 : Ideal .f32) * Ideal.exp (((7 : ℝ) - (u.val : ℝ) : ℝ) * lg) := by
  simp only [← key_at]
  pointwise [kdec, k0_pay6]
  rw [pos_real, seven, EReal.coe_sub]

/-- A score is the product of a turned query and a turned, scaled key, decayed by their distance, and zero against the order. -/
theorem scores_at (lg : Ideal .f32) (C S : FVec Ideal S8x128 .f32) (q k : FVec Ideal S1x8x256 .f32) (t u : Fin 8) :
    scores lg C S q k (ix2 t u) = (∑ s : Fin 256, rotE C S q t s * (rotE C S k u s * (Scalar.ofBits .f32 0x3D800000#32 : Ideal .f32)))
      * (if u.val ≤ t.val then Ideal.exp (((t.val : ℝ) - (u.val : ℝ) : ℝ) * lg) else 0) := by
  simp only [← key_at]
  simp only [← rot_at]
  pointwise [scores, k0_pay4, k0_pay5]
  rw [causal, dist_real, minus_inf]
  split_ifs <;> rfl

/-- The state after the block out of the state before it, the decayed keys (rows `o` on of `D`) and the values. -/
def stateV (g : Ideal .f32) (s : FVec Ideal S1x1x256x256 .f32) (D : FVec Ideal S512x256 .f32) (o : ℕ) (h : S512x256.Slices ![o, 0] S8x256) (v : FVec Ideal S8x256 .bf16) :
    FVec Ideal S1x1x256x256 .f32 :=
  shapeCast S1x1x256x256 (addf (mulf (shapeCast S256x256 s shapeCasts_S1x1x256x256_S256x256) (broadcast S256x256 g))
    (matmul dot_S8x256_S8x256_S256x256_0_0_1_1_n_n none (truncf .bf16 (extractStridedSlice S8x256 ![o, 0] D h) bitsLt_bf16_f32) v (constant S256x256 .f32 0x00000000#32))) shapeCasts_S256x256_S1x1x256x256

/-- The new state: the old one decayed, plus the sum of key times value over the positions. -/
theorem stateV_at (g : Ideal .f32) (s : FVec Ideal S1x1x256x256 .f32) (D : FVec Ideal S512x256 .f32) (o : ℕ) (h : S512x256.Slices ![o, 0] S8x256) (v : FVec Ideal S8x256 .bf16)
    (ho : o + 8 ≤ 512) (a b : Fin 256) :
    stateV g s D o h v (ix4 0 0 a b) = s (ix4 0 0 a b) * g + ∑ u : Fin 8, D (ix2 ⟨o + u.val, by omega⟩ a) * v (ix2 u b) := by
  pointwise [stateV]

/-- The retention of one head, before the norm. -/
def mixV (s : FVec Ideal S1x1x256x256 .f32) (D : FVec Ideal S512x256 .f32) (o : ℕ) (h : S512x256.Slices ![o, 0] S8x256) (w : FVec Ideal S8x8 .bf16) (v : FVec Ideal S8x256 .bf16) :
    FVec Ideal S8x256 .f32 :=
  addf (matmul dot_S8x8_S8x256_S8x256_1_0_0_1_n_n none w v (constant S8x256 .f32 0x00000000#32))
    (matmul dot_S8x256_S256x256_S8x256_1_0_0_1_n_n none (truncf .bf16 (extractStridedSlice S8x256 ![o, 0] D h) bitsLt_bf16_f32)
      (truncf .bf16 (shapeCast S256x256 s shapeCasts_S1x1x256x256_S256x256) bitsLt_bf16_f32) (constant S8x256 .f32 0x00000000#32))

/-- A head's retention: scores times values, plus the decayed query times the state. -/
theorem mixV_at (s : FVec Ideal S1x1x256x256 .f32) (D : FVec Ideal S512x256 .f32) (o : ℕ) (h : S512x256.Slices ![o, 0] S8x256) (w : FVec Ideal S8x8 .bf16) (v : FVec Ideal S8x256 .bf16)
    (ho : o + 8 ≤ 512) (t : Fin 8) (j : Fin 256) :
    mixV s D o h w v (ix2 t j) = (∑ u : Fin 8, w (ix2 t u) * v (ix2 u j)) + ∑ d : Fin 256, D (ix2 ⟨o + t.val, by omega⟩ d) * s (ix4 0 0 d j) := by
  pointwise [mixV]

/-- One head after the norm and the gate. -/
def normV (x : FVec Ideal S8x256 .f32) (n : FVec Ideal S1x1024 .f32) (o : ℕ) (h : S1x1024.Slices ![0, o] S1x256) (g : FVec Ideal S1x8x256 .f32) : FVec Ideal S8x256 .f32 :=
  mulf (mulf (mulf x (broadcastTo S8x256 (rsqrt (addf (divf (shapeCast S8x1 (multiReduction .add [1] S8 (mulf x x) 0x00000000#32 reduces_S8x256_S8 (.inl rfl) rfl) shapeCasts_S8_S8x1)
      (broadcast S8x1 (Scalar.ofBits .f32 0x43800000#32))) (broadcast S8x1 (Scalar.ofBits .f32 0x358637BD#32)))) broadcasts_S8x1_S8x256))
      (broadcastTo S8x256 (extractStridedSlice S1x256 ![0, o] n h) broadcasts_S1x256_S8x256))
    (mulf (shapeCast S8x256 g shapeCasts_S1x8x256_S8x256) (logistic (shapeCast S8x256 g shapeCasts_S1x8x256_S8x256)))

/-- A head's result: its retention over the root of its mean square, times the gain, times the gate. -/
theorem normV_at (x : FVec Ideal S8x256 .f32) (n : FVec Ideal S1x1024 .f32) (o : ℕ) (h : S1x1024.Slices ![0, o] S1x256) (g : FVec Ideal S1x8x256 .f32) (ho : o + 256 ≤ 1024)
    (t : Fin 8) (j : Fin 256) :
    normV x n o h g (ix2 t j) = x (ix2 t j) * Ideal.rsqrt (Ideal.div (∑ d : Fin 256, x (ix2 t d) * x (ix2 t d)) (Ideal.ofBits .f32 0x43800000#32) + Ideal.ofBits .f32 0x358637BD#32)
      * n (ix2 0 ⟨o + j.val, by omega⟩) * (g (ix3 0 t j) * Ideal.logistic (g (ix3 0 t j))) := by
  pointwise [normV]

/-- The product with the matrix `D` of the decayed rows: row `r` of `X` times the reordering `p`. -/
def reorder (X : FVec Ideal S512x256 .f32) : FVec Ideal S512x256 .f32 :=
  matmul dot_S512x256_S256x256_S512x256_1_0_0_1_n_n none (truncf .bf16 X bitsLt_bf16_f32) (k0_pay7 (F := Ideal)) (constant S512x256 .f32 0x00000000#32)

/-- The reordered rows as a sum over the places. -/
theorem reorder_at (X : FVec Ideal S512x256 .f32) (r : Fin 512) (d : Fin 256) :
    reorder X (ix2 r d) = ∑ s : Fin 256, X (ix2 r s) * k0_pay7 (F := Ideal) (ix2 s d) := by
  pointwise [reorder]

/-- The channel that the kernel's place `s` of a turned row has in the plain order. -/
def place (s : ℕ) : ℕ := if s < 128 then 2 * s else 2 * (s - 128) + 1

/-- The kernel's integers compute the place's channel. -/
theorem place_bits : ∀ s : Fin 256, Scalar.select (IntOp.cmpi CmpIPredicate.slt (BitVec.ofNat 32 s.val) 128#32) (IntOp.muli (2#32) (BitVec.ofNat 32 s.val))
    (IntOp.addi (IntOp.muli (2#32) (IntOp.subi (BitVec.ofNat 32 s.val) 128#32)) 1#32) = BitVec.ofNat 32 (place s.val) := by
  decide +kernel

/-- A place's channel is below 256. -/
theorem place_lt : ∀ s : Fin 256, place s.val < 256 := by decide +kernel

/-- The reordering's matrix. -/
theorem pay7_at (s d : Fin 256) : k0_pay7 (F := Ideal) (ix2 s d) = if place s.val = d.val then (1 : EReal) else 0 := by
  pointwise [k0_pay7]
  rw [place_bits]
  have hs := place_lt s
  have hc : IntOp.cmpi CmpIPredicate.eq (BitVec.ofNat 32 (place s.val)) (BitVec.ofNat 32 d.val) = if place s.val = d.val then 1#1 else 0#1 := by
    by_cases h : place s.val = d.val
    · rw [if_pos h, h]; simp [IntOp.cmpi]
    · rw [if_neg h]
      have : ¬ BitVec.ofNat 32 (place s.val) = BitVec.ofNat 32 d.val := fun e => h (by
        have := congrArg BitVec.toNat e
        simp only [BitVec.toNat_ofNat] at this
        omega)
      show BitVec.ofBool (_ == _) = _
      rw [beq_eq_false_iff_ne.mpr this]
      rfl
  rw [hc]
  split_ifs
  · show (((((1#1).setWidth 32).toInt : ℝ) : ℝ) : EReal) = 1
    rw [show ((1#1).setWidth 32).toInt = 1 by decide]; simp
  · show (((((0#1).setWidth 32).toInt : ℝ) : ℝ) : EReal) = 0
    rw [show ((0#1).setWidth 32).toInt = 0 by decide]; simp

end Cert.Kernel7Ideal.Ret

end
-- ==== Proof.RetBlock.lean ====
/- The retention's kernel: what one grid point leaves of the states and of the result, head by head of its eight sequences. -/
module
public import proofs.«01_k».proof.Proof.RetParts
public import proofs.«01_k».proof.Proof.Gen.Kernel7Ideal.Value
public import Idealize.ShloMosaic.Lib.Pipeline.ReadBack
@[expose] public section
set_option maxRecDepth 65536
noncomputable section
namespace Cert.Kernel7Ideal.Ret
open Cert.Kernel7Ideal Cert.Kernel7Ideal.Gen Idealize.ShloMosaic Idealize.ShloMosaic.TcCoe Idealize.SL.Sem
open Idealize.ShloMosaic.Pipeline (Dat)

/-- The eight positions of one sequence of a block, at one head's columns. -/
theorem inbRow {J H : ℕ} (hJ : J < 8) (hH : H < 4) : ∀ a, (![J, 0, 256 * H] : Fin 3 → ℕ) a + S1x8x256.size a ≤ S8x8x1024.size a := by
  intro a
  fin_cases a
  · show J + 1 ≤ 8; omega
  · show 0 + 8 ≤ 8; omega
  · show 256 * H + 256 ≤ 1024; omega
/-- One head's eight positions of one sequence of a block. -/
def row (A : FVec Ideal S8x8x1024 .f32) {J H : ℕ} (hJ : J < 8) (hH : H < 4) : FVec Ideal S1x8x256 .f32 :=
  View.ld (Val := Elt Ideal) (e' := .f32) A (Rect.unit (s := S8x8x1024) ![J, 0, 256 * H] S1x8x256.size (inbRow hJ hH))

/-- One head's state of one sequence of a block. -/
theorem inbState {J H : ℕ} (hJ : J < 8) (hH : H < 4) : ∀ a, (![J, H, 0, 0] : Fin 4 → ℕ) a + S1x1x256x256.size a ≤ S8x4x256x256.size a := by
  intro a
  fin_cases a
  · show J + 1 ≤ 8; omega
  · show H + 1 ≤ 4; omega
  · show 0 + 256 ≤ 256; omega
  · show 0 + 256 ≤ 256; omega
/-- One head's state of one sequence of a block, as loaded. -/
def stIn (Z : FVec Ideal S8x4x256x256 .f32) {J H : ℕ} (hJ : J < 8) (hH : H < 4) : FVec Ideal S1x1x256x256 .f32 :=
  View.ld (Val := Elt Ideal) (e' := .f32) Z (Rect.unit (s := S8x4x256x256) ![J, H, 0, 0] S1x1x256x256.size (inbState hJ hH))

/-- The decayed queries and keys of a block, one after the other: eight rows for each, a head after the other, a sequence after the other. -/
def part (Q K : FVec Ideal S8x8x1024 .f32) (C S : FVec Ideal S8x128 .f32) (n : Fin 64) : FVec Ideal S8x256 .f32 :=
  if n.val % 2 = 0 then qdec (lgK (n.val / 2 % 4)) C S (row Q (J := n.val / 8) (H := n.val / 2 % 4) (by omega) (by omega))
  else kdec (lgK (n.val / 2 % 4)) C S (row K (J := n.val / 8) (H := n.val / 2 % 4) (by omega) (by omega))

/-- Sixty-four times eight rows are 512 rows. -/
theorem parts_concat (f : Fin 64 → FVec Ideal S8x256 .f32) :
    Shape.Concatenates ((List.ofFn fun n : Fin 64 => (⟨S8x256, f n⟩ : (s : Shape) × (s.Idx → EReal))).map (·.1)) S512x256 0 := by
  have h : (List.ofFn fun n : Fin 64 => (⟨S8x256, f n⟩ : (s : Shape) × (s.Idx → EReal))).map (·.1) = List.replicate 64 S8x256 := by
    rw [List.map_ofFn]; exact List.ofFn_const _ _
  rw [h]
  decide

/-- All decayed queries and keys of a block as one array. -/
def rowsOf (Q K : FVec Ideal S8x8x1024 .f32) (C S : FVec Ideal S8x128 .f32) : FVec Ideal S512x256 .f32 :=
  concatenate S512x256 0 (List.ofFn fun n : Fin 64 => (⟨S8x256, part Q K C S n⟩ : (s : Shape) × (s.Idx → EReal))) (parts_concat (part Q K C S))

/-- Eight of the 512 rows. -/
theorem slicesRows {o : ℕ} (h : o + 8 ≤ 512) : S512x256.Slices ![o, 0] S8x256 := ⟨rfl, fun a => by
  fin_cases a
  · show o + 8 ≤ 512; exact h
  · show 0 + 256 ≤ 256; omega⟩

variable (m : (ℓ : Loc nD τ sig) → Buf (Elt Ideal) ℓ)

/-- What a point reads: its sequences' queries, keys, values and gate, the tables, the gains and the states. -/
abbrev qB (c : Dev nD) (t : Fin cfg0.N) : FVec Ideal S8x8x1024 .f32 := iblk m c 0 t
abbrev kB (c : Dev nD) (t : Fin cfg0.N) : FVec Ideal S8x8x1024 .f32 := iblk m c 1 t
abbrev vB (c : Dev nD) (t : Fin cfg0.N) : FVec Ideal S8x8x1024 .f32 := iblk m c 2 t
abbrev gB (c : Dev nD) (t : Fin cfg0.N) : FVec Ideal S8x8x1024 .f32 := iblk m c 3 t
abbrev cB (c : Dev nD) (t : Fin cfg0.N) : FVec Ideal S8x128 .f32 := shapeCast S8x128 (iblk m c 4 t : FVec Ideal S8x128 .f32) shapeCasts_S8x128_S8x128
abbrev sB (c : Dev nD) (t : Fin cfg0.N) : FVec Ideal S8x128 .f32 := shapeCast S8x128 (iblk m c 5 t : FVec Ideal S8x128 .f32) shapeCasts_S8x128_S8x128
abbrev nB (c : Dev nD) (t : Fin cfg0.N) : FVec Ideal S1x1024 .f32 := iblk m c 6 t
abbrev zB (c : Dev nD) (t : Fin cfg0.N) : FVec Ideal S8x4x256x256 .f32 := shapeCast S8x4x256x256 (iblk m c 7 t : FVec Ideal S8x4x256x256 .f32) shapeCasts_S8x4x256x256_S8x4x256x256
/-- The same rows with the channels in the plain order. -/
def dB (c : Dev nD) (t : Fin cfg0.N) : FVec Ideal S512x256 .f32 := reorder (rowsOf (qB m c t) (kB m c t) (cB m c t) (sB m c t))

/-- The state a point leaves for one head of one sequence. -/
def stOut (c : Dev nD) (t : Fin cfg0.N) (D : FVec Ideal S512x256 .f32) {J H : ℕ} (hJ : J < 8) (hH : H < 4) : FVec Ideal S1x1x256x256 .f32 :=
  stateV (g8K H) (stIn (zB m c t) hJ hH) D (16 * (4 * J + H) + 8) (slicesRows (by omega)) (vals (row (vB m c t) hJ hH))

/-- A stored state at its own place. -/
theorem st_ok (c : Dev nD) (t : Fin cfg0.N) (D : FVec Ideal S512x256 .f32) (j : Fin 8) (h : Fin 4) (a b : Fin 256) {J H : ℕ} (hJ : J < 8) (hH : H < 4) (x : S1x1x256x256.Idx)
    (h0 : ((ix4 (n0 := 8) (n1 := 4) (n2 := 256) (n3 := 256) j h a b 0 : Fin 8) : ℕ) = J + (x 0 : Fin 1).val)
    (h1 : ((ix4 (n0 := 8) (n1 := 4) (n2 := 256) (n3 := 256) j h a b 1 : Fin 4) : ℕ) = H + (x 1 : Fin 1).val)
    (h2 : ((ix4 (n0 := 8) (n1 := 4) (n2 := 256) (n3 := 256) j h a b 2 : Fin 256) : ℕ) = (x 2 : Fin 256).val) (h3 : ((ix4 (n0 := 8) (n1 := 4) (n2 := 256) (n3 := 256) j h a b 3 : Fin 256) : ℕ) = (x 3 : Fin 256).val) :
    stOut m c t D hJ hH x = stOut m c t D j.isLt h.isLt (ix4 0 0 a b) := by
  obtain ⟨p, q, r, s, rfl⟩ : ∃ (p q : Fin 1) (r s : Fin 256), x = ix4 p q r s := ⟨x 0, x 1, x 2, x 3, by ext a; fin_cases a <;> rfl⟩
  change j.val = J + p.val at h0
  change h.val = H + q.val at h1
  obtain rfl : a = r := Fin.ext h2
  obtain rfl : b = s := Fin.ext h3
  obtain rfl : p = 0 := Subsingleton.elim _ _
  obtain rfl : q = 0 := Subsingleton.elim _ _
  obtain rfl : j.val = J := h0
  obtain rfl : h.val = H := h1
  rfl

/-- Equal lists of pieces have equal concatenations. -/
theorem concat_congr (L L' : List ((s : Shape) × (s.Idx → EReal))) (h : L = L') (p : Shape.Concatenates (L.map (·.1)) S512x256 0) (p' : Shape.Concatenates (L'.map (·.1)) S512x256 0) :
    concatenate S512x256 0 L p = concatenate S512x256 0 L' p' := by
  subst h; rfl

/-- A list of pieces as a family, one piece at a time. -/
theorem cons_ofFn {n : ℕ} (g : Fin (n + 1) → FVec Ideal S8x256 .f32) (x : FVec Ideal S8x256 .f32) (L : List ((s : Shape) × (s.Idx → EReal))) (h0 : x = g 0)
    (h : L = List.ofFn fun i : Fin n => (⟨S8x256, g i.succ⟩ : (s : Shape) × (s.Idx → EReal))) :
    (⟨S8x256, x⟩ :: L : List ((s : Shape) × (s.Idx → EReal))) = List.ofFn fun i : Fin (n + 1) => ⟨S8x256, g i⟩ := by
  subst h0 h
  rw [List.ofFn_succ]

/-- The rotation as the kernel spells it. -/
theorem fold_rot (C S : FVec Ideal S8x128 .f32) (x : FVec Ideal S1x8x256 .f32) (h h0 h1 hc) : concatenate S8x256 1
    [⟨S8x128, subf (mulf (extractStridedSlice S8x128 ![0, 0] (shapeCast S8x256 x h) h0) C) (mulf (extractStridedSlice S8x128 ![0, 128] (shapeCast S8x256 x h) h1) S)⟩,
     ⟨S8x128, addf (mulf (extractStridedSlice S8x128 ![0, 128] (shapeCast S8x256 x h) h1) C) (mulf (extractStridedSlice S8x128 ![0, 0] (shapeCast S8x256 x h) h0) S)⟩]
    hc = rot C S x := rfl

/-- Stores over which a first one, of the whole buffer, is no longer seen. -/
theorem canon_drop {S : Shape} (p : View.Piece (Elt Ideal) S .f32) : ∀ (L : List (View.Piece (Elt Ideal) S .f32)) (y : S.Idx), (∃ q ∈ L, y ∈ q.1.set) →
    View.canon (L ++ [p]) y = View.canon L y
  | [], _, h => by obtain ⟨q, hq, _⟩ := h; exact absurd hq List.not_mem_nil
  | q :: L, y, h => by
    by_cases hm : y ∈ q.1.set
    · obtain ⟨x, rfl⟩ := q.1.exists_idx_of_mem hm
      rw [show q.1.idx x = q.1.emb x from rfl, List.cons_append, View.canon_cons_emb, View.canon_cons_emb]
    · rw [List.cons_append, View.canon_cons_of_not_mem _ _ hm, View.canon_cons_of_not_mem _ _ hm]
      refine canon_drop p L y ?_
      obtain ⟨r, hr, hyr⟩ := h
      rcases List.mem_cons.mp hr with rfl | hr'
      · exact absurd hyr hm
      · exact ⟨r, hr', hyr⟩

set_option maxHeartbeats 1000000 in
/-- What a point leaves in the states' block: each head's state out of the decayed rows. -/
theorem state_out (c : Dev nD) (t : Fin cfg0.N) (j : Fin 8) (h : Fin 4) (a b : Fin 256) : (outsAt0 (F := Ideal) m c t).2 (ix4 j h a b) = stOut m c t (dB m c t) j.isLt h.isLt (ix4 0 0 a b) := by
  unfold outsAt0
  frame_open
  simp (disch := decide) only [↓View.readCov_skip, ↓View.readCov_fill]
  frame_out
  delta k0_pay263
  beta_reduce
  simp (disch := decide) only [fold_rot, Memref.IsWhole.read_unread, View.ld_unit_lit]
  generalize hD : k0_pay259 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = D
  have hd : D = dB m c t := by
    rw [← hD]
    delta k0_pay259
    beta_reduce
    refine congrArg reorder (concat_congr _ _ ?_ _ _)
    iterate 64
      refine cons_ofFn _ _ _ ?_ ?_
      · rfl
    rfl
  clear hD
  rw [← hd]
  refine (canon_drop _ [_, _, _, _, _, _, _, _, _, _, _, _, _, _, _, _, _, _, _, _, _, _, _, _, _, _, _, _, _, _, _, _] _ (View.cover_of_tiled_head _ _ _ rfl _)).trans ?_
  canon_tiles x hx
  all_goals first
    | exact (st_ok m c t D j h a b (by decide) (by decide) x hx0 hx1 hx2 hx3 :)
    | exact (st_ok m c t D j h a b (by decide) (by decide) x (hx0.trans (Nat.zero_add _).symm) hx1 hx2 hx3 :)
    | exact (st_ok m c t D j h a b (by decide) (by decide) x hx0 (hx1.trans (Nat.zero_add _).symm) hx2 hx3 :)
    | exact (st_ok m c t D j h a b (by decide) (by decide) x (hx0.trans (Nat.zero_add _).symm) (hx1.trans (Nat.zero_add _).symm) hx2 hx3 :)
/-- The gains of one head. -/
theorem slicesGain {o : ℕ} (h : o + 256 ≤ 1024) : S1x1024.Slices ![0, o] S1x256 := ⟨rfl, fun a => by
  fin_cases a
  · show 0 + 1 ≤ 1; omega
  · show o + 256 ≤ 1024; exact h⟩

/-- What a point computes for one head of one sequence. -/
def headOut (c : Dev nD) (t : Fin cfg0.N) (D : FVec Ideal S512x256 .f32) {J H : ℕ} (hJ : J < 8) (hH : H < 4) : FVec Ideal S8x256 .f32 :=
  normV (mixV (stIn (zB m c t) hJ hH) D (16 * (4 * J + H)) (slicesRows (by omega)) (scores (lgK H) (cB m c t) (sB m c t) (row (qB m c t) hJ hH) (row (kB m c t) hJ hH)) (vals (row (vB m c t) hJ hH)))
    (shapeCast S1x1024 (nB m c t) shapeCasts_S1x1024_S1x1024) (256 * H) (slicesGain (by omega)) (row (gB m c t) hJ hH)

/-- Four heads side by side. -/
def cat4 (x0 x1 x2 x3 : FVec Ideal S8x256 .f32) : FVec Ideal S8x1024 .f32 :=
  concatenate S8x1024 1 [⟨S8x256, x0⟩, ⟨S8x256, x1⟩, ⟨S8x256, x2⟩, ⟨S8x256, x3⟩] concatenates_S8x256_S8x256_S8x256_S8x256_S8x1024_d1

/-- The heads side by side as the kernel spells them. -/
theorem fold_cat4 (x0 x1 x2 x3 : FVec Ideal S8x256 .f32) (h) : concatenate S8x1024 1 [⟨S8x256, x0⟩, ⟨S8x256, x1⟩, ⟨S8x256, x2⟩, ⟨S8x256, x3⟩] h = cat4 x0 x1 x2 x3 := rfl

/-- What a point computes for one sequence. -/
def seqOut (c : Dev nD) (t : Fin cfg0.N) (D : FVec Ideal S512x256 .f32) {J : ℕ} (hJ : J < 8) : FVec Ideal S1x8x1024 .f32 :=
  shapeCast S1x8x1024 (cat4 (headOut m c t D hJ (H := 0) (by decide)) (headOut m c t D hJ (H := 1) (by decide)) (headOut m c t D hJ (H := 2) (by decide)) (headOut m c t D hJ (H := 3) (by decide))) shapeCasts_S8x1024_S1x8x1024

/-- A stored sequence at its own place. -/
theorem out_ok (c : Dev nD) (t : Fin cfg0.N) (D : FVec Ideal S512x256 .f32) (j : Fin 8) (u : Fin 8) (e : Fin 1024) {J : ℕ} (hJ : J < 8) (x : S1x8x1024.Idx)
    (h0 : ((ix3 (n0 := 8) (n1 := 8) (n2 := 1024) j u e 0 : Fin 8) : ℕ) = J + (x 0 : Fin 1).val)
    (h1 : ((ix3 (n0 := 8) (n1 := 8) (n2 := 1024) j u e 1 : Fin 8) : ℕ) = (x 1 : Fin 8).val)
    (h2 : ((ix3 (n0 := 8) (n1 := 8) (n2 := 1024) j u e 2 : Fin 1024) : ℕ) = (x 2 : Fin 1024).val) :
    seqOut m c t D hJ x = seqOut m c t D j.isLt (ix3 0 u e) := by
  obtain ⟨p, q, r, rfl⟩ : ∃ (p : Fin 1) (q : Fin 8) (r : Fin 1024), x = ix3 p q r := ⟨x 0, x 1, x 2, by ext a; fin_cases a <;> rfl⟩
  change j.val = J + p.val at h0
  obtain rfl : u = q := Fin.ext h1
  obtain rfl : e = r := Fin.ext h2
  obtain rfl : p = 0 := Subsingleton.elim _ _
  obtain rfl : j.val = J := h0
  rfl

set_option maxHeartbeats 1000000 in
/-- What a point leaves in the result's block: each sequence's heads side by side. -/
theorem result_out (c : Dev nD) (t : Fin cfg0.N) (j u : Fin 8) (e : Fin 1024) : (outsAt0 (F := Ideal) m c t).1 (ix3 j u e) = seqOut m c t (dB m c t) j.isLt (ix3 0 u e) := by
  unfold outsAt0
  frame_open
  simp (disch := decide) only [↓fold_cat4, ↓View.readCov_skip, ↓View.readCov_fill]
  frame_out
  delta k0_pay262
  beta_reduce
  simp (disch := decide) only [fold_rot, ↓fold_cat4, Memref.IsWhole.read_unread, View.ld_unit_lit]
  generalize hD : k0_pay259 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = D
  have hd : D = dB m c t := by
    rw [← hD]
    delta k0_pay259
    beta_reduce
    refine congrArg reorder (concat_congr _ _ ?_ _ _)
    iterate 64
      refine cons_ofFn _ _ _ ?_ ?_
      · rfl
    rfl
  clear hD
  refine Eq.trans ?_ (congrArg (fun D => seqOut m c t D j.isLt (ix3 0 u e)) hd)
  clear hd
  canon_tiles x hx
  all_goals first
    | exact (out_ok m c t D j u e (by decide) x hx0 hx1 hx2 :)
    | exact (out_ok m c t D j u e (by decide) x (hx0.trans (Nat.zero_add _).symm) hx1 hx2 :)
end Cert.Kernel7Ideal.Ret

end
-- ==== Proof.RetRef.lean ====
/- The retention (`_ret_chunk`): what its reference computes, element by element. -/
module

public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Reference7Ideal.Ret

open Cert.Reference7Ideal Cert.Reference7Ideal.Gen Idealize.ShloMosaic Idealize.ShloMosaic.TcCoe Idealize.SL.Sem

/-- The retention's columns of the projection: queries, keys, values and gate, 1024 of each. -/
def cols (P : FVec Ideal S1024x8192 .f32) : FVec Ideal S128x8x4096 .f32 :=
  extractStridedSlice S128x8x4096 ![0, 0, 4096] (shapeCast _ P shapeCasts_S1024x8192_S128x8x8192) slices_S128x8x8192_S128x8x4096_0_0_4096

/-- The 1024 columns from `o` on, by heads. -/
def heads (P : FVec Ideal S1024x8192 .f32) (o : ℕ) (h : Shape.Slices S128x8x4096 ![0, 0, o] S128x8x1024) : FVec Ideal S128x8x4x256 .f32 :=
  shapeCast _ (extractStridedSlice S128x8x1024 ![0, 0, o] (cols P) h) shapeCasts_S128x8x1024_S128x8x4x256

/-- A head's column is a column of the projection. -/
theorem heads_at (P : FVec Ideal S1024x8192 .f32) (o : ℕ) (hs) (ho : o + 1024 ≤ 4096) (b : Fin 128) (t : Fin 8) (h : Fin 4) (d : Fin 256) :
    heads P o hs (ix4 b t h d) = P (ix2 ⟨8 * b.val + t.val, by omega⟩ ⟨4096 + o + 256 * h.val + d.val, by omega⟩) := by
  pointwise [heads, cols]
  exact congrArg P (congrArg₂ ix2 (Fin.ext (by dsimp only; omega)) (Fin.ext (by dsimp only; omega)))

/-- The rotary angles of the eight positions. -/
def angles : FVec Ideal S8x128 .f32 :=
  mulf (broadcastInDim S8x128 ![0, 1] bcast_S8x1_S8x128_0_1 (broadcastInDim S8x1 ![0] bcast_S8_S8x1_0 (addf (sitofp .f32 (iotaInDim S8 32 0)) (broadcastInDim S8 ![] bcast_S_S8 (constant S_ .f32 0x46800000#32))))) (broadcastInDim S8x128 ![0, 1] bcast_S1x128_S8x128_0_1 (broadcastInDim S1x128 ![1] bcast_S128_S1x128_1 (Host.powf (broadcastInDim S128 ![] bcast_S_S128 (constant S_ .f32 0x461C4000#32)) (Host.negf (concatenate S128 0 [⟨S127, (addf (mulf (broadcastInDim S127 ![0] bcast_S1_S127_0 (shapeCast _ (id (constant S_ .f32 0x00000000#32)) shapeCasts_S_S1)) (subf (broadcastInDim S127 ![] bcast_S_S127 (constant S_ .f32 0x3F800000#32)) (Host.divf (sitofp .f32 (iotaInDim S127 32 0)) (broadcastInDim S127 ![] bcast_S_S127 (constant S_ .f32 0x42FE0000#32))))) (mulf (broadcastInDim S127 ![0] bcast_S1_S127_0 (shapeCast _ (id (constant S_ .f32 0x3F800000#32)) shapeCasts_S_S1)) (Host.divf (sitofp .f32 (iotaInDim S127 32 0)) (broadcastInDim S127 ![] bcast_S_S127 (constant S_ .f32 0x42FE0000#32)))))⟩, ⟨S1, (broadcastInDim S1 ![] bcast_S_S1 (id (constant S_ .f32 0x3F800000#32)))⟩] concatenates_S127_S1_S128_d0)))))

/-- The tables of the rotation. -/
def cosT : FVec Ideal S8x128 .f32 := Host.cos angles

/-- The sines. -/
def sinT : FVec Ideal S8x128 .f32 := Host.sin angles

/-- A table over all sequences and heads. -/
def spread (x : FVec Ideal S8x128 .f32) : FVec Ideal S128x8x4x128 .f32 :=
  broadcastInDim S128x8x4x128 ![0, 1, 2, 3] bcast_S1x8x1x128_S128x8x4x128_0_1_2_3 (broadcastInDim S1x8x1x128 ![1, 3] bcast_S8x128_S1x8x1x128_1_3 x)

/-- The first and the second half of each head's channels: the even and the odd channels of a pair. -/
def firsts (x : FVec Ideal S128x8x4x256 .f32) : FVec Ideal S128x8x4x128 .f32 :=
  extractStridedSlice S128x8x4x128 ![0, 0, 0, 0] x slices_S128x8x4x256_S128x8x4x128_0_0_0_0

/-- The second half. -/
def seconds (x : FVec Ideal S128x8x4x256 .f32) : FVec Ideal S128x8x4x128 .f32 :=
  extractStridedSlice S128x8x4x128 ![0, 0, 0, 128] x slices_S128x8x4x256_S128x8x4x128_0_0_0_128

/-- The rotation: the pairs turned, and laid out channel by channel. -/
def turn (x : FVec Ideal S128x8x4x256 .f32) : FVec Ideal S128x8x4x256 .f32 :=
  shapeCast _ (concatenate S128x8x4x128x2 4 [⟨S128x8x4x128x1, (broadcastInDim S128x8x4x128x1 ![0, 1, 2, 3] bcast_S128x8x4x128_S128x8x4x128x1_0_1_2_3 (subf (mulf (firsts x) (spread cosT)) (mulf (seconds x) (spread sinT))))⟩, ⟨S128x8x4x128x1, (broadcastInDim S128x8x4x128x1 ![0, 1, 2, 3] bcast_S128x8x4x128_S128x8x4x128x1_0_1_2_3 (addf (mulf (seconds x) (spread cosT)) (mulf (firsts x) (spread sinT))))⟩] concatenates_S128x8x4x128x1_S128x8x4x128x1_S128x8x4x128x2_d4) shapeCasts_S128x8x4x128x2_S128x8x4x256

/-- The rotated pair of one channel. -/
def turned (x : Fin 256 → EReal) (c s : Fin 128 → EReal) (d : ℕ) (hd : d < 256) : EReal :=
  if d % 2 = 0 then x ⟨d / 2, by omega⟩ * c ⟨d / 2, by omega⟩ - x ⟨128 + d / 2, by omega⟩ * s ⟨d / 2, by omega⟩
  else x ⟨128 + d / 2, by omega⟩ * c ⟨d / 2, by omega⟩ + x ⟨d / 2, by omega⟩ * s ⟨d / 2, by omega⟩

/-- The rotation, element by element. -/
theorem turn_at (x : FVec Ideal S128x8x4x256 .f32) (b : Fin 128) (t : Fin 8) (h : Fin 4) (d : Fin 256) :
    turn x (ix4 b t h d) = turned (fun e => x (ix4 b t h e)) (fun e => cosT (ix2 t e)) (fun e => sinT (ix2 t e)) d.val d.isLt := by
  pointwise [turn, spread, firsts, seconds, turned]
  by_cases hd : d.val % 2 < 1
  · have hd' : d.val % 2 = 0 := by omega
    exact (dif_pos hd).trans (if_pos hd').symm
  · have hd' : ¬ d.val % 2 = 0 := by omega
    exact (dif_neg hd).trans (if_neg hd').symm

/-- Queries, keys and values, head by head. -/
def qR (P : FVec Ideal S1024x8192 .f32) : FVec Ideal S128x4x8x256 .f32 :=
  transpose S128x4x8x256 [0, 2, 1, 3] (turn (heads P 0 slices_S128x8x4096_S128x8x1024_0_0_0)) transposes_S128x8x4x256_S128x4x8x256_0_2_1_3

/-- The keys, turned and scaled. -/
def kR (P : FVec Ideal S1024x8192 .f32) : FVec Ideal S128x4x8x256 .f32 :=
  transpose S128x4x8x256 [0, 2, 1, 3] (mulf (turn (heads P 1024 slices_S128x8x4096_S128x8x1024_0_0_1024)) (broadcastInDim S128x8x4x256 ![] bcast_S_S128x8x4x256 (constant S_ .f32 0x3D800000#32))) transposes_S128x8x4x256_S128x4x8x256_0_2_1_3

/-- The values. -/
def vR (P : FVec Ideal S1024x8192 .f32) : FVec Ideal S128x4x8x256 .f32 :=
  transpose S128x4x8x256 [0, 2, 1, 3] (heads P 2048 slices_S128x8x4096_S128x8x1024_0_0_2048) transposes_S128x8x4x256_S128x4x8x256_0_2_1_3

/-- The logarithm of each head's decay. -/
def logGamma : FVec Ideal S4 .f32 :=
  Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0)))))

/-- Its sums over the positions up to each one. -/
def sums : FVec Ideal S4x8 .f32 :=
  Host.reduceWindowAdd ![1, 8] ![1, 1] ![0, 7] ![0, 0] (broadcastInDim S4x8 ![0, 1] bcast_S4x1_S4x8_0_1 (broadcastInDim S4x1 ![0] bcast_S4_S4x1_0 logGamma)) (broadcastInDim S_ ![] bcast_S_S_ (constant S_ .f32 0x00000000#32)) reduceWindows_S4x8_S4x8_w1s1p0_0_w8s1p7_0 h_S_

/-- The decay from one position to another, zero against the order. -/
def decayR : FVec Ideal S4x8x8 .f32 :=
  Host.exp (select (broadcastInDim S4x8x8 ![1, 2] bcast_S8x8_S4x8x8_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1)))) (subf (broadcastInDim S4x8x8 ![0, 1, 2] bcast_S4x8x1_S4x8x8_0_1_2 (broadcastInDim S4x8x1 ![0, 1] bcast_S4x8_S4x8x1_0_1 sums)) (broadcastInDim S4x8x8 ![0, 1, 2] bcast_S4x1x8_S4x8x8_0_1_2 (broadcastInDim S4x1x8 ![0, 2] bcast_S4x8_S4x1x8_0_2 sums))) (broadcastInDim S4x8x8 ![] bcast_S_S4x8x8 (id (constant S_ .f32 0xFF800000#32))))

/-- The decay is the exponential of the difference of two sums, zero against the order. -/
theorem decayR_at (h : Fin 4) (t u : Fin 8) : decayR (ix3 h t u) = if u.val ≤ t.val then Ideal.exp (sums (ix2 h t) - sums (ix2 h u)) else 0 := by
  pointwise [decayR]
  have hc : Scalar.select (IntOp.cmpi CmpIPredicate.sge (IntOp.addi (BitVec.ofNat 32 t.val) 0#32) (BitVec.ofNat 32 u.val)) (1#1) (0#1)
      = if u.val ≤ t.val then 1#1 else 0#1 := by
    revert t u; decide
  rw [hc]
  by_cases h' : u.val ≤ t.val
  · rw [if_pos h', if_pos h']; rfl
  · rw [if_neg h', if_neg h']
    have hb : constant (F := Ideal) S_ FTy.f32 4286578688#32 ix0 = (⊥ : EReal) := by
      show Ideal.ofBits .f32 4286578688#32 = _
      simp [Ideal.ofBits, Ideal.ieee]
    show Ideal.exp (constant (F := Ideal) S_ FTy.f32 4286578688#32 ix0) = 0
    rw [hb]; rfl

/-- The state that the eight positions leave. -/
def stateRef (P : FVec Ideal S1024x8192 .f32) (S : FVec Ideal S1x128x4x256x256 .f32) : FVec Ideal S128x4x256x256 .f32 :=
  addf (mulf (shapeCast _ S shapeCasts_S1x128x4x256x256_S128x4x256x256) (broadcastInDim S128x4x256x256 ![0, 1, 2, 3] bcast_S1x4x1x1_S128x4x256x256_0_1_2_3 (broadcastInDim S1x4x1x1 ![1, 2, 3] bcast_S4x1x1_S1x4x1x1_1_2_3 (broadcastInDim S4x1x1 ![0] bcast_S4_S4x1x1_0 (Host.exp (shapeCast _ (extractStridedSlice S4x1 ![0, 7] sums slices_S4x8_S4x1_0_7) shapeCasts_S4x1_S4)))))) (Host.dotGeneral dot_S128x4x8x256_S128x4x8x256_S128x4x256x256_2_2_3_3_01_01 none (mulf (kR P) (broadcastInDim S128x4x8x256 ![0, 1, 2, 3] bcast_S1x4x8x1_S128x4x8x256_0_1_2_3 (broadcastInDim S1x4x8x1 ![1, 2, 3] bcast_S4x8x1_S1x4x8x1_1_2_3 (broadcastInDim S4x8x1 ![0, 1] bcast_S4x8_S4x8x1_0_1 (Host.exp (subf (broadcastInDim S4x8 ![0, 1] bcast_S4x1_S4x8_0_1 (extractStridedSlice S4x1 ![0, 7] sums slices_S4x8_S4x1_0_7)) sums)))))) (vR P))

/-- The new state, element by element. -/
theorem stateRef_at (P : FVec Ideal S1024x8192 .f32) (S : FVec Ideal S1x128x4x256x256 .f32) (b : Fin 128) (h : Fin 4) (i j : Fin 256) :
    stateRef P S (ix4 b h i j) = S (ix5 0 b h i j) * Ideal.exp (sums (ix2 h 7))
      + ∑ u : Fin 8, (kR P (ix4 b h u i) * Ideal.exp (sums (ix2 h 7) - sums (ix2 h u))) * vR P (ix4 b h u j) := by
  pointwise [stateRef]

/-- The retention of each position, before the norm. -/
def mixed (P : FVec Ideal S1024x8192 .f32) (S : FVec Ideal S1x128x4x256x256 .f32) : FVec Ideal S128x8x4x256 .f32 :=
  transpose S128x8x4x256 [0, 2, 1, 3] (addf (Host.dotGeneral dot_S128x4x8x8_S128x4x8x256_S128x4x8x256_3_2_2_3_01_01 none (mulf (Host.dotGeneral dot_S128x4x8x256_S128x4x8x256_S128x4x8x8_3_3_2_2_01_01 none (qR P) (kR P)) (broadcastInDim S128x4x8x8 ![0, 1, 2, 3] bcast_S1x4x8x8_S128x4x8x8_0_1_2_3 (broadcastInDim S1x4x8x8 ![1, 2, 3] bcast_S4x8x8_S1x4x8x8_1_2_3 decayR))) (vR P)) (Host.dotGeneral dot_S128x4x8x256_S128x4x256x256_S128x4x8x256_3_2_2_3_01_01 none (mulf (qR P) (broadcastInDim S128x4x8x256 ![0, 1, 2, 3] bcast_S1x4x8x1_S128x4x8x256_0_1_2_3 (broadcastInDim S1x4x8x1 ![1, 2, 3] bcast_S4x8x1_S1x4x8x1_1_2_3 (broadcastInDim S4x8x1 ![0, 1] bcast_S4x8_S4x8x1_0_1 (Host.exp sums))))) (shapeCast _ S shapeCasts_S1x128x4x256x256_S128x4x256x256))) transposes_S128x4x8x256_S128x8x4x256_0_2_1_3

/-- The retention, element by element. -/
theorem mixed_at (P : FVec Ideal S1024x8192 .f32) (S : FVec Ideal S1x128x4x256x256 .f32) (b : Fin 128) (t : Fin 8) (h : Fin 4) (j : Fin 256) :
    mixed P S (ix4 b t h j) = ∑ u : Fin 8, ((∑ d : Fin 256, qR P (ix4 b h t d) * kR P (ix4 b h u d)) * decayR (ix3 h t u)) * vR P (ix4 b h u j)
      + ∑ d : Fin 256, (qR P (ix4 b h t d) * Ideal.exp (sums (ix2 h t))) * S (ix5 0 b h d j) := by
  pointwise [mixed]

/-- The retention after the norm and the gate. -/
def outRef (P : FVec Ideal S1024x8192 .f32) (N : FVec Ideal S1x1024 .f32) (S : FVec Ideal S1x128x4x256x256 .f32) : FVec Ideal S128x8x1024 .f32 :=
  shapeCast _ (mulf (mulf (mulf (mixed P S) (broadcastInDim S128x8x4x256 ![0, 1, 2, 3] bcast_S128x8x4x1_S128x8x4x256_0_1_2_3 (Host.rsqrt (addf (Host.divf (broadcastInDim S128x8x4x1 ![0, 1, 2] bcast_S128x8x4_S128x8x4x1_0_1_2 (Host.reduceAdd (mulf (mixed P S) (mixed P S)) (constant S_ .f32 0x00000000#32) reducesTo_S128x8x4x256_S128x8x4_d3 h_S_)) (broadcastInDim S128x8x4x1 ![] bcast_S_S128x8x4x1 (constant S_ .f32 0x43800000#32))) (broadcastInDim S128x8x4x1 ![] bcast_S_S128x8x4x1 (constant S_ .f32 0x358637BD#32)))))) (broadcastInDim S128x8x4x256 ![0, 1, 2, 3] bcast_S1x1x4x256_S128x8x4x256_0_1_2_3 (broadcastInDim S1x1x4x256 ![2, 3] bcast_S4x256_S1x1x4x256_2_3 (shapeCast _ (shapeCast _ N shapeCasts_S1x1024_S1024) shapeCasts_S1024_S4x256)))) (mulf (heads P 3072 slices_S128x8x4096_S128x8x1024_0_0_3072) (Host.divf (broadcastInDim S128x8x4x256 ![] bcast_S_S128x8x4x256 (constant S_ .f32 0x3F800000#32)) (addf (broadcastInDim S128x8x4x256 ![] bcast_S_S128x8x4x256 (constant S_ .f32 0x3F800000#32)) (Host.exp (Host.negf (heads P 3072 slices_S128x8x4096_S128x8x1024_0_0_3072))))))) shapeCasts_S128x8x4x256_S128x8x1024

/-- One head of one position out of its retention `o`, its norm's gains `n` and its gate `g`. -/
def normed (o n g : Fin 256 → EReal) (j : Fin 256) : EReal :=
  o j * Ideal.rsqrt (Ideal.div (∑ d, o d * o d) (Ideal.ofBits .f32 0x43800000#32) + Ideal.ofBits .f32 0x358637BD#32) * n j * (g j * Ideal.logistic (g j))

/-- The result, element by element. -/
theorem outRef_at (P : FVec Ideal S1024x8192 .f32) (N : FVec Ideal S1x1024 .f32) (S : FVec Ideal S1x128x4x256x256 .f32) (b : Fin 128) (t : Fin 8) (h : Fin 4) (j : Fin 256) :
    outRef P N S (ix3 b t ⟨256 * h.val + j.val, by omega⟩) = normed (fun j => mixed P S (ix4 b t h j)) (fun j => N (ix2 0 ⟨256 * h.val + j.val, by omega⟩))
      (fun j => P (ix2 ⟨8 * b.val + t.val, by omega⟩ ⟨7168 + 256 * h.val + j.val, by omega⟩)) j := by
  simp only [← heads_at P 3072 slices_S128x8x4096_S128x8x1024_0_0_3072 (by omega)]
  pointwise [outRef, normed]
  rw [show (⟨h.val * 256 + j.val, by omega⟩ : Fin 1024) = ⟨256 * h.val + j.val, by omega⟩ from Fin.ext (by dsimp only; omega)]
  rfl

/-- The queries: the turned columns, unscaled. -/
theorem qR_at (P : FVec Ideal S1024x8192 .f32) (b : Fin 128) (h : Fin 4) (t : Fin 8) (d : Fin 256) :
    qR P (ix4 b h t d) = turned (fun e => P (ix2 ⟨8 * b.val + t.val, by omega⟩ ⟨4096 + 0 + 256 * h.val + e.val, by omega⟩))
      (fun e => cosT (ix2 t e)) (fun e => sinT (ix2 t e)) d.val d.isLt := by
  simp only [← heads_at P 0 slices_S128x8x4096_S128x8x1024_0_0_0 (by omega)]
  rw [← turn_at]
  pointwise [qR]

/-- The keys: the turned columns, scaled. -/
theorem kR_at (P : FVec Ideal S1024x8192 .f32) (b : Fin 128) (h : Fin 4) (t : Fin 8) (d : Fin 256) :
    kR P (ix4 b h t d) = turned (fun e => P (ix2 ⟨8 * b.val + t.val, by omega⟩ ⟨4096 + 1024 + 256 * h.val + e.val, by omega⟩))
      (fun e => cosT (ix2 t e)) (fun e => sinT (ix2 t e)) d.val d.isLt * (Scalar.ofBits .f32 0x3D800000#32 : Ideal .f32) := by
  simp only [← heads_at P 1024 slices_S128x8x4096_S128x8x1024_0_0_1024 (by omega)]
  rw [← turn_at]
  pointwise [kR]

/-- The values: the plain columns. -/
theorem vR_at (P : FVec Ideal S1024x8192 .f32) (b : Fin 128) (h : Fin 4) (t : Fin 8) (d : Fin 256) :
    vR P (ix4 b h t d) = P (ix2 ⟨8 * b.val + t.val, by omega⟩ ⟨4096 + 2048 + 256 * h.val + d.val, by omega⟩) := by
  rw [← heads_at P 2048 slices_S128x8x4096_S128x8x1024_0_0_2048 (by omega)]
  pointwise [vR]

/-- The logarithm of each head's decay as a number. -/
def lgR : ℕ → ℝ
  | 0 => Real.log (31 / 32)
  | 1 => Real.log (63 / 64)
  | 2 => Real.log (127 / 128)
  | _ => Real.log (255 / 256)

/-- The literals of the decays, and a head's number. -/
theorem two : Ideal.ofBits FTy.f32 0x40000000#32 = (((2 : ℝ) : ℝ) : EReal) := by
  simp [Ideal.ofBits, Ideal.ieee, -EReal.coe_mul]; norm_num

/-- The exponent's first value. -/
theorem minus_five : Ideal.ofBits FTy.f32 0xC0A00000#32 = (((-5 : ℝ) : ℝ) : EReal) := by
  simp [Ideal.ofBits, Ideal.ieee, -EReal.coe_mul]; norm_num

/-- A head's number. -/
theorem head_real (h : Fin 4) : FloatOps.sitofp (F := Ideal) FTy.f32 (BitVec.ofNat 32 h.val) = (((h.val : ℝ) : ℝ) : EReal) := by
  have e : ∀ h : Fin 4, (BitVec.ofNat 32 h.val).toInt = h.val := by decide
  show ((((BitVec.ofNat 32 h.val).toInt : ℝ) : ℝ) : EReal) = _
  rw [e h]; rfl

/-- The logarithms of the heads' decays are those of 31/32, 63/64, 127/128 and 255/256. -/
theorem logGamma_at (h : Fin 4) : logGamma (ix1 h) = ((lgR h.val : ℝ) : EReal) := by
  have e : logGamma (ix1 h) = Ideal.log1p (-(Ideal.pow (Ideal.ofBits FTy.f32 0x40000000#32) (Ideal.ofBits FTy.f32 0xC0A00000#32 - FloatOps.sitofp (F := Ideal) FTy.f32 (BitVec.ofNat 32 h.val)))) := by
    pointwise [logGamma]
  rw [e, two, minus_five, head_real, ← EReal.coe_sub, Ideal.pow_coe_coe, ← EReal.coe_neg, Ideal.log1p, ← EReal.coe_one, ← EReal.coe_add, Ideal.log_coe]
  have hp : (1 + -Real.rpow 2 (-5 - (h.val : ℝ)) : ℝ) = 1 - (1 / 2 ^ (5 + h.val) : ℝ) := by
    rw [show (-5 - (h.val : ℝ) : ℝ) = -((5 + h.val : ℕ) : ℝ) by push_cast; ring]
    show (1 + -((2 : ℝ) ^ (-((5 + h.val : ℕ) : ℝ))) : ℝ) = _
    rw [Real.rpow_neg (by norm_num), Real.rpow_natCast]
    ring
  rw [hp]
  fin_cases h
  · rw [if_neg (by norm_num)]; show ((Real.log _ : ℝ) : EReal) = ((Real.log _ : ℝ) : EReal); norm_num
  · rw [if_neg (by norm_num)]; show ((Real.log _ : ℝ) : EReal) = ((Real.log _ : ℝ) : EReal); norm_num
  · rw [if_neg (by norm_num)]; show ((Real.log _ : ℝ) : EReal) = ((Real.log _ : ℝ) : EReal); norm_num
  · rw [if_neg (by norm_num)]; show ((Real.log _ : ℝ) : EReal) = ((Real.log _ : ℝ) : EReal); norm_num

/-- Which places of a window of eight positions lie in the row. -/
theorem window : ∀ (h : Fin 4) (t n : Fin 8), ((∀ a : Fin 2, (![0, 7] : Fin 2 → ℕ) a ≤ (ix2 h t a).val * (![1, 1] : Fin 2 → ℕ) a + ((Shape.mk 2 ![1, 8]).rowMajor.symm n a).val
    ∧ (ix2 h t a).val * (![1, 1] : Fin 2 → ℕ) a + ((Shape.mk 2 ![1, 8]).rowMajor.symm n a).val - (![0, 7] : Fin 2 → ℕ) a < S4x8.size a) ↔ 7 ≤ t.val + n.val) := by
  decide +kernel

/-- A window's place keeps the head, -/
theorem window0 : ∀ (n : Fin 8), ((Shape.mk 2 ![1, 8]).rowMajor.symm n 0).val = 0 := by
  decide +kernel

/-- and counts the positions. -/
theorem window1 : ∀ (n : Fin 8), ((Shape.mk 2 ![1, 8]).rowMajor.symm n 1).val = n.val := by
  decide +kernel

/-- A sum over the positions up to one, place by place of its window. -/
theorem sums_fold (h : Fin 4) (t : Fin 8) : sums (ix2 h t) = (List.finRange 8).foldl (fun (r : EReal) (n : Fin 8) => r + if 7 ≤ t.val + n.val then logGamma (ix1 h) else 0) 0 := by
  have e : sums (ix2 h t) = Host.reduceWindow (s := S4x8) (t := S4x8) (u := S_) (fun a b : EReal => a + b) ![1, 8] ![1, 1] ![0, 7] ![0, 0]
      (broadcastInDim S4x8 ![0, 1] bcast_S4x1_S4x8_0_1 (broadcastInDim S4x1 ![0] bcast_S4_S4x1_0 logGamma)) (fun _ => Ideal.ofBits FTy.f32 0#32)
      reduceWindows_S4x8_S4x8_w1s1p0_0_w8s1p7_0 h_S_ (ix2 h t) := rfl
  rw [e]
  unfold Host.reduceWindow
  show List.foldl _ _ (List.finRange 8) = _
  have hz : Ideal.ofBits FTy.f32 0#32 = 0 := by simp [Ideal.ofBits, Ideal.ieee]
  rw [hz]
  refine List.foldl_ext _ _ _ fun r n _ => congrArg (fun z : EReal => r + z) ?_
  by_cases hn : 7 ≤ t.val + n.val
  · rw [if_pos hn]
    refine (dif_pos ((window h t n).mpr hn)).trans ?_
    have hb : ∀ k : Fin 8, broadcastInDim S4x8 ![0, 1] bcast_S4x1_S4x8_0_1 (broadcastInDim S4x1 ![0] bcast_S4_S4x1_0 logGamma) (ix2 h k) = logGamma (ix1 h) := by
      intro k; pointwise []
    refine Eq.trans (congrArg _ ?_) (hb ⟨t.val + n.val - 7, by omega⟩)
    funext a
    fin_cases a
    · exact Fin.ext (by show h.val * 1 + ((Shape.mk 2 ![1, 8]).rowMajor.symm n 0).val - 0 = h.val; rw [window0]; omega)
    · exact Fin.ext (by show t.val * 1 + ((Shape.mk 2 ![1, 8]).rowMajor.symm n 1).val - 7 = t.val + n.val - 7; rw [window1]; omega)
  · rw [if_neg hn]
    refine (dif_neg fun k => hn ((window h t n).mp k)).trans ?_
    rfl

/-- The decays' logarithms summed over the positions up to each one. -/
theorem sums_at (h : Fin 4) (t : Fin 8) : sums (ix2 h t) = ((((t.val : ℝ) + 1) * lgR h.val : ℝ) : EReal) := by
  rw [sums_fold, logGamma_at]
  generalize lgR h.val = L
  fin_cases t <;> simp [List.finRange] <;> norm_num <;> (simp only [← EReal.coe_add, ← EReal.coe_mul]; exact congrArg _ (by ring))

end Cert.Reference7Ideal.Ret

end
-- ==== Proof.RetTurn.lean ====
/- The retention's kernel: its turned rows, its decays and its block's pieces in the words of the reference. -/
module

public import proofs.«01_k».proof.Proof.RetBlock
public import proofs.«01_k».proof.Proof.RetRef

@[expose] public section

set_option maxRecDepth 16384

noncomputable section

namespace Cert.Kernel7Ideal.Ret

open Cert.Kernel7Ideal Cert.Kernel7Ideal.Gen Idealize.ShloMosaic Idealize.ShloMosaic.TcCoe Idealize.SL.Sem
open Cert.Reference7Ideal.Ret (turned cosT sinT sums lgR sums_at)

/-- The place that a channel of the plain order has in a turned row of the kernel. -/
def unplace (d : ℕ) : ℕ := if d % 2 = 0 then d / 2 else 128 + d / 2

/-- Such a place is below 256. -/
theorem unplace_lt {d : ℕ} (h : d < 256) : unplace d < 256 := by unfold unplace; split_ifs <;> omega

/-- A channel's place and a place's channel are inverse to one another. -/
theorem place_iff {s d : ℕ} (hs : s < 256) (hd : d < 256) : place s = d ↔ s = unplace d := by
  unfold place unplace; split_ifs <;> omega

/-- The reordering, as a permutation of the channels. -/
def turnEquiv : Fin 256 ≃ Fin 256 where
  toFun d := ⟨unplace d.val, unplace_lt d.isLt⟩
  invFun s := ⟨place s.val, place_lt s⟩
  left_inv d := Fin.ext ((place_iff (unplace_lt d.isLt) d.isLt).mpr rfl)
  right_inv s := Fin.ext ((place_iff s.isLt (place_lt s)).mp rfl).symm

/-- A turned row at a channel's place is the reference's turned channel. -/
theorem rotE_turned (C S : FVec Ideal S8x128 .f32) (x : FVec Ideal S1x8x256 .f32) (u : Fin 8) (d : Fin 256) :
    rotE C S x u (turnEquiv d) = turned (fun e => x (ix3 0 u e)) (fun e => C (ix2 u e)) (fun e => S (ix2 u e)) d.val d.isLt := by
  have hd := d.isLt
  by_cases h : d.val % 2 = 0
  · have e : turnEquiv d = ⟨d.val / 2, by omega⟩ := Fin.ext (if_pos h)
    rw [e, turned, if_pos h, rotE, dif_pos (show d.val / 2 < 128 by omega)]
  · have e : turnEquiv d = ⟨128 + d.val / 2, by omega⟩ := Fin.ext (if_neg h)
    rw [e, turned, if_neg h, rotE, dif_neg (show ¬ 128 + d.val / 2 < 128 by omega)]
    simp only [Nat.add_sub_cancel_left]

/-- The product with the reordering's matrix reads a row in the plain order. -/
theorem reorder_turn (X : FVec Ideal S512x256 .f32) (r : Fin 512) (d : Fin 256) : reorder X (ix2 r d) = X (ix2 r (turnEquiv d)) := by
  rw [reorder_at]
  refine (Finset.sum_eq_single (turnEquiv d) (fun s _ hs => ?_) (fun h => absurd (Finset.mem_univ _) h)).trans ?_
  · rw [pay7_at, if_neg (fun h => hs (Fin.ext ((place_iff s.isLt d.isLt).mp h)))]
    exact mul_zero _
  · rw [pay7_at, if_pos ((place_iff (turnEquiv d).isLt d.isLt).mpr rfl)]
    exact mul_one _

/-- One head's rows, values and state, element by element. -/
theorem row_at (A : FVec Ideal S8x8x1024 .f32) {J H : ℕ} (hJ : J < 8) (hH : H < 4) (u : Fin 8) (e : Fin 256) :
    row A hJ hH (ix3 0 u e) = A (ix3 ⟨J, hJ⟩ u ⟨256 * H + e.val, by omega⟩) := by
  show A ((Rect.unit (s := S8x8x1024) ![J, 0, 256 * H] S1x8x256.size (inbRow hJ hH)).emb (ix3 0 u e)) = _
  refine congrArg A (funext fun a => Fin.ext ?_)
  rw [Rect.emb_apply]
  fin_cases a
  · show J + 1 * 0 = J; omega
  · show 0 + 1 * u.val = u.val; omega
  · show 256 * H + 1 * e.val = 256 * H + e.val; omega

/-- Equal sequence and head name the same rows. -/
theorem row_congr (A : FVec Ideal S8x8x1024 .f32) {J H J' H' : ℕ} (hJ : J < 8) (hH : H < 4) (hJ' : J' < 8) (hH' : H' < 4) (e : J = J') (f : H = H') :
    row A hJ hH = row A hJ' hH' := by
  subst e f; rfl

/-- A head's state is the block's at its sequence and head. -/
theorem stIn_at (Z : FVec Ideal S8x4x256x256 .f32) {J H : ℕ} (hJ : J < 8) (hH : H < 4) (a b : Fin 256) :
    stIn Z hJ hH (ix4 0 0 a b) = Z (ix4 ⟨J, hJ⟩ ⟨H, hH⟩ a b) := by
  show Z ((Rect.unit (s := S8x4x256x256) ![J, H, 0, 0] S1x1x256x256.size (inbState hJ hH)).emb (ix4 0 0 a b)) = _
  refine congrArg Z (funext fun k => Fin.ext ?_)
  rw [Rect.emb_apply]
  fin_cases k
  · show J + 1 * 0 = J; omega
  · show H + 1 * 0 = H; omega
  · show 0 + 1 * a.val = a.val; omega
  · show 0 + 1 * b.val = b.val; omega

/-- The values are the row's. -/
theorem vals_at (x : FVec Ideal S1x8x256 .f32) (u : Fin 8) (j : Fin 256) : vals x (ix2 u j) = x (ix3 0 u j) := by
  pointwise [vals]

/-- The row `u` of the piece `n` among the decayed rows. -/
theorem rowsOf_at (Q K : FVec Ideal S8x8x1024 .f32) (C S : FVec Ideal S8x128 .f32) (n : Fin 64) (u : Fin 8) (s : Fin 256) (r : Fin 512) (hr : r.val = 8 * n.val + u.val) :
    rowsOf Q K C S (ix2 r s) = part Q K C S n (ix2 u s) := by
  refine concatenate_ofFn_apply 0 (part Q K C S) (parts_concat _) rfl 8 rfl _ n ?_ _ ?_ ?_
  · show r.val / 8 = n.val; omega
  · show u.val = r.val % 8; omega
  · intro b hb
    fin_cases b
    · exact absurd rfl hb
    · rfl

/-- The turned channels of one head's positions. -/
def tR (A : FVec Ideal S8x8x1024 .f32) (C S : FVec Ideal S8x128 .f32) {J H : ℕ} (hJ : J < 8) (hH : H < 4) (u : Fin 8) (d : Fin 256) : EReal :=
  turned (fun e => A (ix3 ⟨J, hJ⟩ u ⟨256 * H + e.val, by omega⟩)) (fun e => C (ix2 u e)) (fun e => S (ix2 u e)) d.val d.isLt

/-- One head's turned row at a channel's place is its turned channel. -/
theorem rotE_row (A : FVec Ideal S8x8x1024 .f32) (C S : FVec Ideal S8x128 .f32) {J H : ℕ} (hJ : J < 8) (hH : H < 4) (u : Fin 8) (d : Fin 256) :
    rotE C S (row A hJ hH) u (turnEquiv d) = tR A C S hJ hH u d := by
  rw [rotE_turned, tR]
  simp only [row_at]

/-- A decayed query of the block in the plain order. -/
theorem query_row (Q K : FVec Ideal S8x8x1024 .f32) (C S : FVec Ideal S8x128 .f32) {J H : ℕ} (hJ : J < 8) (hH : H < 4) (u : Fin 8) (d : Fin 256) :
    reorder (rowsOf Q K C S) (ix2 ⟨16 * (4 * J + H) + u.val, by omega⟩ d) = tR Q C S hJ hH u d * Ideal.exp (((u.val : ℝ) + (1 : ℝ) : ℝ) * lgK H) := by
  rw [reorder_turn, rowsOf_at Q K C S ⟨2 * (4 * J + H), by omega⟩ u _ _ (by show 16 * (4 * J + H) + u.val = 8 * (2 * (4 * J + H)) + u.val; omega)]
  have e : part Q K C S ⟨2 * (4 * J + H), by omega⟩ = qdec (lgK H) C S (row Q hJ hH) := by
    have h8 : 2 * (4 * J + H) / 8 = J := by omega
    have h4 : 2 * (4 * J + H) / 2 % 4 = H := by omega
    rw [part, if_pos (show 2 * (4 * J + H) % 2 = 0 by omega)]
    exact congrArg₂ (fun l x => qdec l C S x) (congrArg lgK h4) (row_congr Q _ _ hJ hH h8 h4)
  rw [e, qdec_at, rotE_row]

/-- A decayed key of the block in the plain order. -/
theorem key_row (Q K : FVec Ideal S8x8x1024 .f32) (C S : FVec Ideal S8x128 .f32) {J H : ℕ} (hJ : J < 8) (hH : H < 4) (u : Fin 8) (d : Fin 256) :
    reorder (rowsOf Q K C S) (ix2 ⟨16 * (4 * J + H) + 8 + u.val, by omega⟩ d)
      = tR K C S hJ hH u d * (Scalar.ofBits .f32 0x3D800000#32 : Ideal .f32) * Ideal.exp (((7 : ℝ) - (u.val : ℝ) : ℝ) * lgK H) := by
  rw [reorder_turn, rowsOf_at Q K C S ⟨2 * (4 * J + H) + 1, by omega⟩ u _ _ (by show 16 * (4 * J + H) + 8 + u.val = 8 * (2 * (4 * J + H) + 1) + u.val; omega)]
  have e : part Q K C S ⟨2 * (4 * J + H) + 1, by omega⟩ = kdec (lgK H) C S (row K hJ hH) := by
    have h8 : (2 * (4 * J + H) + 1) / 8 = J := by omega
    have h4 : (2 * (4 * J + H) + 1) / 2 % 4 = H := by omega
    rw [part, if_neg (show ¬ (2 * (4 * J + H) + 1) % 2 = 0 by omega)]
    exact congrArg₂ (fun l x => kdec l C S x) (congrArg lgK h4) (row_congr K _ _ hJ hH h8 h4)
  rw [e, kdec_at, rotE_row]

/-- The products of queries and keys in the plain order. -/
theorem scores_row (lg : Ideal .f32) (Q K : FVec Ideal S8x8x1024 .f32) (C S : FVec Ideal S8x128 .f32) {J H : ℕ} (hJ : J < 8) (hH : H < 4) (t u : Fin 8) :
    scores lg C S (row Q hJ hH) (row K hJ hH) (ix2 t u) = (∑ d : Fin 256, tR Q C S hJ hH t d * (tR K C S hJ hH u d * (Scalar.ofBits .f32 0x3D800000#32 : Ideal .f32)))
      * (if u.val ≤ t.val then Ideal.exp (((t.val : ℝ) - (u.val : ℝ) : ℝ) * lg) else 0) := by
  rw [scores_at, ← Equiv.sum_comp turnEquiv]
  simp only [rotE_row]

/-- The kernel's logarithms are the reference's. -/
theorem lgK_real (h : Fin 4) : lgK h.val = ((lgR h.val : ℝ) : EReal) := by
  fin_cases h
  · exact IdealRules.named_const.ideal_named_scalar _ _ _ _ rfl
  · exact IdealRules.named_const.ideal_named_scalar _ _ _ _ rfl
  · exact IdealRules.named_const.ideal_named_scalar _ _ _ _ rfl
  · exact IdealRules.named_const.ideal_named_scalar _ _ _ _ rfl

/-- The eighth power of a positive number out of its logarithm. -/
theorem eighth (x : ℝ) (hx : 0 < x) : Ideal.exp (((((7 : ℝ) + 1) * Real.log x : ℝ)) : EReal) = ((x ^ 8 : ℝ) : EReal) := by
  rw [Ideal.exp_coe, show ((7 : ℝ) + 1) * Real.log x = ((8 : ℕ) : ℝ) * Real.log x by norm_num, Real.exp_nat_mul, Real.exp_log hx]

/-- The kernel's decays over the whole block are the reference's. -/
theorem g8K_real (h : Fin 4) : g8K h.val = Ideal.exp (sums (ix2 h 7)) := by
  rw [sums_at]
  fin_cases h
  · refine (IdealRules.named_const.ideal_named_scalar _ _ _ _ rfl).trans (Eq.trans ?_ (eighth (31 / 32) (by norm_num)).symm); norm_num
  · refine (IdealRules.named_const.ideal_named_scalar _ _ _ _ rfl).trans (Eq.trans ?_ (eighth (63 / 64) (by norm_num)).symm); norm_num
  · refine (IdealRules.named_const.ideal_named_scalar _ _ _ _ rfl).trans (Eq.trans ?_ (eighth (127 / 128) (by norm_num)).symm); norm_num
  · refine (IdealRules.named_const.ideal_named_scalar _ _ _ _ rfl).trans (Eq.trans ?_ (eighth (255 / 256) (by norm_num)).symm); norm_num

/-- The exponents of the kernel are the reference's sums and their differences. -/
theorem decay_start (h : Fin 4) (u : Fin 8) : (((u.val : ℝ) + (1 : ℝ) : ℝ) : EReal) * lgK h.val = sums (ix2 h u) := by
  rw [lgK_real, sums_at, EReal.coe_mul]

/-- From one position to another. -/
theorem decay_between (h : Fin 4) (t u : Fin 8) : (((t.val : ℝ) - (u.val : ℝ) : ℝ) : EReal) * lgK h.val = sums (ix2 h t) - sums (ix2 h u) := by
  rw [lgK_real, sums_at, sums_at, ← EReal.coe_mul, ← EReal.coe_sub]
  congr 1; ring

/-- From a position to the last one. -/
theorem decay_end (h : Fin 4) (u : Fin 8) : (((7 : ℝ) - (u.val : ℝ) : ℝ) : EReal) * lgK h.val = sums (ix2 h 7) - sums (ix2 h u) :=
  decay_between h 7 u

end Cert.Kernel7Ideal.Ret

end
-- ==== Proof.RetValue.lean ====
/- The retention (`_ret_chunk`): the arrays its kernel leaves are the results of its reference. -/
module

public import proofs.«01_k».proof.Proof.RetTurn

@[expose] public section

set_option maxRecDepth 16384

noncomputable section

namespace Cert.Kernel7Ideal.Ret

open Cert.Kernel7Ideal Cert.Kernel7Ideal.Gen Idealize.ShloMosaic Idealize.ShloMosaic.TcCoe Idealize.SL.Sem
open Idealize.ShloMosaic.Pipeline (Dat)
open Cert.Reference7Ideal.Ret (turned cosT sinT sums qR qR_at kR kR_at vR vR_at decayR_at stateRef stateRef_at mixed mixed_at normed outRef outRef_at)

variable (m : (ℓ : Loc nD τ sig) → Buf (Elt Ideal) ℓ)

/-- The grid point's block numbers: point `t` takes the sequences from `8 t` on. -/
theorem idx : ∀ t : Fin cfg0.N, win0_0.index t = ![t.val, 0, 4] ∧ win0_1.index t = ![t.val, 0, 5] ∧ win0_2.index t = ![t.val, 0, 6] ∧ win0_3.index t = ![t.val, 0, 7]
    ∧ win0_4.index t = ![0, 0] ∧ win0_5.index t = ![0, 0] ∧ win0_6.index t = ![0, 0] ∧ win0_7.index t = ![t.val, 0, 0, 0] ∧ win0_8.index t = ![t.val, 0, 0] ∧ win0_9.index t = ![t.val, 0, 0, 0] :=
  (by decide +kernel : ∀ t : Fin grid0.N, win0_0.index t = ![t.val, 0, 4] ∧ win0_1.index t = ![t.val, 0, 5] ∧ win0_2.index t = ![t.val, 0, 6] ∧ win0_3.index t = ![t.val, 0, 7]
    ∧ win0_4.index t = ![0, 0] ∧ win0_5.index t = ![0, 0] ∧ win0_6.index t = ![0, 0] ∧ win0_7.index t = ![t.val, 0, 0, 0] ∧ win0_8.index t = ![t.val, 0, 0] ∧ win0_9.index t = ![t.val, 0, 0, 0])

abbrev P (c : Dev nD) : FVec Ideal S1024x8192 .f32 := m ((c.tc : Thread nD τ).loc main_arg0)
abbrev N (c : Dev nD) : FVec Ideal S1x1024 .f32 := m ((c.tc : Thread nD τ).loc main_arg1)
abbrev Z (c : Dev nD) : FVec Ideal S1x128x4x256x256 .f32 := m ((c.tc : Thread nD τ).loc main_arg2)

/-- The arrays that the kernel's host part prepares: the projection by sequences, the states, the gains and the tables. -/
theorem arr14 (c : Dev nD) : V m c main_v14 = shapeCast S128x8x8192 (P m c) shapeCasts_S1024x8192_S128x8x8192 := rfl

/-- The states. -/
theorem arr16 (c : Dev nD) : V m c main_v16 = shapeCast S128x4x256x256 (Z m c) shapeCasts_S1x128x4x256x256_S128x4x256x256 := rfl

/-- The gains. -/
theorem arr17 (c : Dev nD) : V m c main_v17 = shapeCast S1x1024 (shapeCast S1024 (N m c) shapeCasts_S1x1024_S1024) shapeCasts_S1024_S1x1024 := rfl

/-- The cosines. -/
theorem arr12 (c : Dev nD) : V m c main_v12 = cosT := rfl

/-- The sines. -/
theorem arr13 (c : Dev nD) : V m c main_v13 = sinT := rfl

/-- What a point reads of its sequences: the columns of the projection, the states and the gains. -/
theorem q_point (c : Dev nD) (t : Fin cfg0.N) (ht : t.val < 16) (j u : Fin 8) (e : Fin 1024) :
    qB m c t (ix3 j u e) = P m c (ix2 ⟨8 * (8 * t.val + j.val) + u.val, by omega⟩ ⟨4096 + e.val, by omega⟩) := by
  show V m c main_v14 ((win0_0.blk t).view.emb (ix3 j u e)) = _
  rw [arr14]
  refine Eq.trans (b := (shapeCast S128x8x8192 (P m c) shapeCasts_S1024x8192_S128x8x8192) (ix3 (⟨8 * t.val + j.val, by omega⟩ : Fin 128) u (⟨4096 + e.val, by omega⟩ : Fin 8192))) (congrArg (shapeCast S128x8x8192 (P m c) shapeCasts_S1024x8192_S128x8x8192) ?_) ?_
  · blk_ext [idx t]
  · pointwise []
    exact congrArg (P m c) (congrArg₂ ix2 (Fin.ext (by dsimp only; omega)) rfl)

/-- The keys' columns. -/
theorem k_point (c : Dev nD) (t : Fin cfg0.N) (ht : t.val < 16) (j u : Fin 8) (e : Fin 1024) :
    kB m c t (ix3 j u e) = P m c (ix2 ⟨8 * (8 * t.val + j.val) + u.val, by omega⟩ ⟨5120 + e.val, by omega⟩) := by
  show V m c main_v14 ((win0_1.blk t).view.emb (ix3 j u e)) = _
  rw [arr14]
  refine Eq.trans (b := (shapeCast S128x8x8192 (P m c) shapeCasts_S1024x8192_S128x8x8192) (ix3 (⟨8 * t.val + j.val, by omega⟩ : Fin 128) u (⟨5120 + e.val, by omega⟩ : Fin 8192))) (congrArg (shapeCast S128x8x8192 (P m c) shapeCasts_S1024x8192_S128x8x8192) ?_) ?_
  · blk_ext [idx t]
  · pointwise []
    exact congrArg (P m c) (congrArg₂ ix2 (Fin.ext (by dsimp only; omega)) rfl)

/-- The values' columns. -/
theorem v_point (c : Dev nD) (t : Fin cfg0.N) (ht : t.val < 16) (j u : Fin 8) (e : Fin 1024) :
    vB m c t (ix3 j u e) = P m c (ix2 ⟨8 * (8 * t.val + j.val) + u.val, by omega⟩ ⟨6144 + e.val, by omega⟩) := by
  show V m c main_v14 ((win0_2.blk t).view.emb (ix3 j u e)) = _
  rw [arr14]
  refine Eq.trans (b := (shapeCast S128x8x8192 (P m c) shapeCasts_S1024x8192_S128x8x8192) (ix3 (⟨8 * t.val + j.val, by omega⟩ : Fin 128) u (⟨6144 + e.val, by omega⟩ : Fin 8192))) (congrArg (shapeCast S128x8x8192 (P m c) shapeCasts_S1024x8192_S128x8x8192) ?_) ?_
  · blk_ext [idx t]
  · pointwise []
    exact congrArg (P m c) (congrArg₂ ix2 (Fin.ext (by dsimp only; omega)) rfl)

/-- The gate's columns. -/
theorem g_point (c : Dev nD) (t : Fin cfg0.N) (ht : t.val < 16) (j u : Fin 8) (e : Fin 1024) :
    gB m c t (ix3 j u e) = P m c (ix2 ⟨8 * (8 * t.val + j.val) + u.val, by omega⟩ ⟨7168 + e.val, by omega⟩) := by
  show V m c main_v14 ((win0_3.blk t).view.emb (ix3 j u e)) = _
  rw [arr14]
  refine Eq.trans (b := (shapeCast S128x8x8192 (P m c) shapeCasts_S1024x8192_S128x8x8192) (ix3 (⟨8 * t.val + j.val, by omega⟩ : Fin 128) u (⟨7168 + e.val, by omega⟩ : Fin 8192))) (congrArg (shapeCast S128x8x8192 (P m c) shapeCasts_S1024x8192_S128x8x8192) ?_) ?_
  · blk_ext [idx t]
  · pointwise []
    exact congrArg (P m c) (congrArg₂ ix2 (Fin.ext (by dsimp only; omega)) rfl)

/-- The gains. -/
theorem n_point (c : Dev nD) (t : Fin cfg0.N) (ht : t.val < 16) (e : Fin 1024) : nB m c t (ix2 0 e) = N m c (ix2 0 e) := by
  show V m c main_v17 ((win0_6.blk t).view.emb (ix2 0 e)) = _
  rw [arr17]
  refine Eq.trans (b := (shapeCast S1x1024 (shapeCast S1024 (N m c) shapeCasts_S1x1024_S1024) shapeCasts_S1024_S1x1024) (ix2 (0 : Fin 1) e)) (congrArg (shapeCast S1x1024 (shapeCast S1024 (N m c) shapeCasts_S1x1024_S1024) shapeCasts_S1024_S1x1024) ?_) ?_
  · blk_ext [idx t]
  · pointwise []

/-- The states. -/
theorem z_point (c : Dev nD) (t : Fin cfg0.N) (ht : t.val < 16) (j : Fin 8) (h : Fin 4) (a b : Fin 256) :
    (iblk m c 7 t : FVec Ideal S8x4x256x256 .f32) (ix4 j h a b) = Z m c (ix5 0 ⟨8 * t.val + j.val, by omega⟩ h a b) := by
  show V m c main_v16 ((win0_7.blk t).view.emb (ix4 j h a b)) = _
  rw [arr16]
  refine Eq.trans (b := (shapeCast S128x4x256x256 (Z m c) shapeCasts_S1x128x4x256x256_S128x4x256x256) (ix4 (⟨8 * t.val + j.val, by omega⟩ : Fin 128) h a b)) (congrArg (shapeCast S128x4x256x256 (Z m c) shapeCasts_S1x128x4x256x256_S128x4x256x256) ?_) ?_
  · blk_ext [idx t]
  · pointwise []

/-- The cosines. -/
theorem c_point (c : Dev nD) (t : Fin cfg0.N) (ht : t.val < 16) (u : Fin 8) (e : Fin 128) : (iblk m c 4 t : FVec Ideal S8x128 .f32) (ix2 u e) = cosT (ix2 u e) := by
  show V m c main_v12 ((win0_4.blk t).view.emb (ix2 u e)) = _
  rw [arr12]
  refine congrArg cosT ?_
  blk_ext [idx t]

/-- The sines. -/
theorem s_point (c : Dev nD) (t : Fin cfg0.N) (ht : t.val < 16) (u : Fin 8) (e : Fin 128) : (iblk m c 5 t : FVec Ideal S8x128 .f32) (ix2 u e) = sinT (ix2 u e) := by
  show V m c main_v13 ((win0_5.blk t).view.emb (ix2 u e)) = _
  rw [arr13]
  refine congrArg sinT ?_
  blk_ext [idx t]

/-- The cosines as the body takes them. -/
theorem cB_at (c : Dev nD) (t : Fin cfg0.N) (ht : t.val < 16) (u : Fin 8) (e : Fin 128) : cB m c t (ix2 u e) = cosT (ix2 u e) := by
  rw [← c_point m c t ht]
  pointwise []

/-- The sines as the body takes them. -/
theorem sB_at (c : Dev nD) (t : Fin cfg0.N) (ht : t.val < 16) (u : Fin 8) (e : Fin 128) : sB m c t (ix2 u e) = sinT (ix2 u e) := by
  rw [← s_point m c t ht]
  pointwise []

/-- The gains as the body takes them. -/
theorem nB_at (c : Dev nD) (t : Fin cfg0.N) (ht : t.val < 16) (e : Fin 1024) : shapeCast S1x1024 (nB m c t) shapeCasts_S1x1024_S1x1024 (ix2 0 e) = N m c (ix2 0 e) := by
  rw [← n_point m c t ht]
  pointwise []

/-- The states as the body takes them. -/
theorem zB_at (c : Dev nD) (t : Fin cfg0.N) (ht : t.val < 16) (j : Fin 8) (h : Fin 4) (a b : Fin 256) :
    zB m c t (ix4 j h a b) = Z m c (ix5 0 ⟨8 * t.val + j.val, by omega⟩ h a b) := by
  rw [← z_point m c t ht]
  pointwise []

/-- Turned channels of equal rows and tables are equal. -/
theorem turned_congr {x x' : Fin 256 → EReal} {c c' s s' : Fin 128 → EReal} (hx : ∀ e, x e = x' e) (hc : ∀ e, c e = c' e) (hs : ∀ e, s e = s' e) (d : ℕ) (hd : d < 256) :
    turned x c s d hd = turned x' c' s' d hd := by
  rw [funext hx, funext hc, funext hs]

/-- The point's turned queries and keys, and its values, are the reference's. -/
theorem q_turn (c : Dev nD) (t : Fin cfg0.N) (ht : t.val < 16) (j : Fin 8) (h : Fin 4) (u : Fin 8) (d : Fin 256) :
    tR (qB m c t) (cB m c t) (sB m c t) j.isLt h.isLt u d = qR (P m c) (ix4 ⟨8 * t.val + j.val, by omega⟩ h u d) := by
  rw [qR_at, tR]
  exact turned_congr (fun e => (q_point m c t ht j u _).trans (congrArg (P m c) (congrArg₂ ix2 rfl (Fin.ext (by dsimp only; omega)))))
    (fun e => cB_at m c t ht u e) (fun e => sB_at m c t ht u e) _ _

/-- The keys. -/
theorem k_turn (c : Dev nD) (t : Fin cfg0.N) (ht : t.val < 16) (j : Fin 8) (h : Fin 4) (u : Fin 8) (d : Fin 256) :
    tR (kB m c t) (cB m c t) (sB m c t) j.isLt h.isLt u d * (Scalar.ofBits .f32 0x3D800000#32 : Ideal .f32) = kR (P m c) (ix4 ⟨8 * t.val + j.val, by omega⟩ h u d) := by
  rw [kR_at, tR]
  exact congrArg (fun z : EReal => z * (Scalar.ofBits .f32 0x3D800000#32 : Ideal .f32)) (turned_congr (fun e => (k_point m c t ht j u _).trans (congrArg (P m c) (congrArg₂ ix2 rfl (Fin.ext (by dsimp only; omega)))))
    (fun e => cB_at m c t ht u e) (fun e => sB_at m c t ht u e) _ _)

/-- The values. -/
theorem v_plain (c : Dev nD) (t : Fin cfg0.N) (ht : t.val < 16) (j : Fin 8) (h : Fin 4) (u : Fin 8) (d : Fin 256) :
    vals (row (vB m c t) j.isLt h.isLt) (ix2 u d) = vR (P m c) (ix4 ⟨8 * t.val + j.val, by omega⟩ h u d) := by
  rw [vals_at, row_at, vR_at]
  exact (v_point m c t ht j u _).trans (congrArg (P m c) (congrArg₂ ix2 rfl (Fin.ext (by dsimp only; omega))))

/-- The state a point leaves is the reference's. -/
theorem state_at (c : Dev nD) (t : Fin cfg0.N) (ht : t.val < 16) (j : Fin 8) (h : Fin 4) (a b : Fin 256) :
    (outsAt0 (F := Ideal) m c t).2 (ix4 j h a b) = stateRef (P m c) (Z m c) (ix4 ⟨8 * t.val + j.val, by omega⟩ h a b) := by
  rw [state_out, stOut, stateV_at _ _ _ _ _ _ (by omega), stateRef_at, stIn_at]
  refine congrArg₂ (fun x y : EReal => x + y) (congrArg₂ (fun x y : EReal => x * y) (zB_at m c t ht j h a b) (g8K_real h)) (Fin.sum_fin_congr fun u => congrArg₂ (fun x y : EReal => x * y) ?_ (v_plain m c t ht j h u b))
  rw [dB, key_row _ _ _ _ j.isLt h.isLt u a, k_turn m c t ht j h u a, decay_end]

/-- The retention a point computes for one head is the reference's. -/
theorem mixed_point (c : Dev nD) (t : Fin cfg0.N) (ht : t.val < 16) (j : Fin 8) (h : Fin 4) (u : Fin 8) (d : Fin 256) :
    mixV (stIn (zB m c t) j.isLt h.isLt) (dB m c t) (16 * (4 * j.val + h.val)) (slicesRows (by omega)) (scores (lgK h.val) (cB m c t) (sB m c t) (row (qB m c t) j.isLt h.isLt) (row (kB m c t) j.isLt h.isLt)) (vals (row (vB m c t) j.isLt h.isLt)) (ix2 u d)
      = mixed (P m c) (Z m c) (ix4 ⟨8 * t.val + j.val, by omega⟩ u h d) := by
  rw [mixV_at _ _ _ _ _ _ (by omega), mixed_at]
  refine congrArg₂ (fun x y : EReal => x + y) (Fin.sum_fin_congr fun w => congrArg₂ (fun x y : EReal => x * y) ?_ (v_plain m c t ht j h w d)) (Fin.sum_fin_congr fun e => congrArg₂ (fun x y : EReal => x * y) ?_ ?_)
  · rw [scores_row, decayR_at]
    refine congrArg₂ (fun x y : EReal => x * y) (Fin.sum_fin_congr fun e => congrArg₂ (fun x y : EReal => x * y) (q_turn m c t ht j h u e) (k_turn m c t ht j h w e)) ?_
    rw [decay_between]
  · rw [dB, query_row _ _ _ _ j.isLt h.isLt u e, q_turn m c t ht j h u e, decay_start]
  · rw [stIn_at]; exact zB_at m c t ht j h e d

/-- What a point computes for one head is the reference's result there. -/
theorem head_at (c : Dev nD) (t : Fin cfg0.N) (ht : t.val < 16) (j : Fin 8) (h : Fin 4) (u : Fin 8) (d : Fin 256) :
    headOut m c t (dB m c t) j.isLt h.isLt (ix2 u d) = outRef (P m c) (N m c) (Z m c) (ix3 ⟨8 * t.val + j.val, by omega⟩ u ⟨256 * h.val + d.val, by omega⟩) := by
  rw [headOut, normV_at _ _ _ _ _ (by omega), outRef_at, normed]
  simp only [mixed_point m c t ht j h u, nB_at m c t ht]
  rw [row_at]
  have hg := (g_point m c t ht j u ⟨256 * h.val + d.val, by omega⟩).trans (congrArg (P m c) (congrArg₂ ix2 rfl (Fin.ext (by dsimp only; omega) : _ = (⟨7168 + 256 * h.val + d.val, by omega⟩ : Fin 8192))))
  exact congrArg (fun z : EReal => _ * (z * Ideal.logistic z)) hg

/-- One of four heads side by side. -/
theorem cat4_at (f : Fin 4 → FVec Ideal S8x256 .f32) (u : Fin 8) (h : Fin 4) (d : Fin 256) : cat4 (f 0) (f 1) (f 2) (f 3) (ix2 u ⟨256 * h.val + d.val, by omega⟩) = f h (ix2 u d) := by
  refine concatenate_ofFn_apply 1 f concatenates_S8x256_S8x256_S8x256_S8x256_S8x1024_d1 rfl 256 rfl _ h ?_ _ ?_ ?_
  · show (256 * h.val + d.val) / 256 = h.val; omega
  · show d.val = (256 * h.val + d.val) % 256; omega
  · intro b hb
    fin_cases b
    · rfl
    · exact absurd rfl hb

/-- What a point leaves of the result is the reference's. -/
theorem out_at (c : Dev nD) (t : Fin cfg0.N) (ht : t.val < 16) (j u : Fin 8) (e : Fin 1024) :
    (outsAt0 (F := Ideal) m c t).1 (ix3 j u e) = outRef (P m c) (N m c) (Z m c) (ix3 ⟨8 * t.val + j.val, by omega⟩ u e) := by
  obtain ⟨h, d, rfl⟩ : ∃ (h : Fin 4) (d : Fin 256), e = ⟨256 * h.val + d.val, by omega⟩ :=
    ⟨⟨e.val / 256, by omega⟩, ⟨e.val % 256, by omega⟩, Fin.ext (by dsimp only; omega)⟩
  rw [result_out, ← head_at m c t ht j h u d]
  have hc := cat4_at (fun h => headOut m c t (dB m c t) j.isLt h.isLt) u h d
  refine Eq.trans ?_ hc
  pointwise [seqOut]

/-- The kernel's results are the reference's. -/
theorem final8 (c : Dev nD) : (dats m 0 c).arrAt 8 (cfgs 0).N = outRef (P m c) (N m c) (Z m c) := by
  refine (dats m 0 c).arrAt_eq_of_covers 8 _ (by decide +kernel) fun t _ y => ?_
  blk_simp
  rw [after0_8]
  obtain ⟨j, u, e, rfl⟩ : ∃ (j u : Fin 8) (e : Fin 1024), y = ix3 j u e := ⟨y 0, y 1, y 2, by ext a; fin_cases a <;> rfl⟩
  have ht : t.val < 16 := t.isLt
  refine Eq.trans (out_at m c t ht j u e) (congrArg (outRef (P m c) (N m c) (Z m c)) ?_)
  blk_ext [idx t]

/-- The state's array is the reference's new state. -/
theorem final9 (c : Dev nD) : (dats m 0 c).arrAt 9 (cfgs 0).N = stateRef (P m c) (Z m c) := by
  refine (dats m 0 c).arrAt_eq_of_covers 9 _ (by decide +kernel) fun t _ y => ?_
  blk_simp
  rw [after0_9]
  obtain ⟨j, h, a, b, rfl⟩ : ∃ (j : Fin 8) (h : Fin 4) (a b : Fin 256), y = ix4 j h a b := ⟨y 0, y 1, y 2, y 3, by ext a; fin_cases a <;> rfl⟩
  have ht : t.val < 16 := t.isLt
  refine Eq.trans (state_at m c t ht j h a b) (congrArg (stateRef (P m c) (Z m c)) ?_)
  blk_ext [idx t]

end Cert.Kernel7Ideal.Ret

end
-- ==== Proof.RetClaim.lean ====
module

public import proofs.«01_k».proof.Defs
public import proofs.«01_k».proof.Proof.RetValue
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The run of the retention's reference: its results are the normed and gated retention and the state after the sequence. -/
theorem ret_reference (m : (ℓ : Loc Cert.Reference7Ideal.nD Cert.Reference7Ideal.τ Cert.Reference7Ideal.sig) → Buf (Elt Ideal) ℓ)
    (ρ : Dev Cert.Reference7Ideal.nD → PrngReg) :
    θ_run Cert.Reference7Ideal.defs (onTc (τ := Cert.Reference7Ideal.τ) (Cert.Reference7Ideal.main (F := Ideal))) ⟨m, fun _ => 0, ρ⟩
      fun r => ∀ c : Dev Cert.Reference7Ideal.nD,
        r.2.mem ((c.tc : Thread Cert.Reference7Ideal.nD Cert.Reference7Ideal.τ).loc Cert.Reference7Ideal.main_v143)
          = Cert.Reference7Ideal.Ret.outRef (m ((c.tc : Thread Cert.Reference7Ideal.nD Cert.Reference7Ideal.τ).loc Cert.Reference7Ideal.main_arg0))
              (m ((c.tc : Thread Cert.Reference7Ideal.nD Cert.Reference7Ideal.τ).loc Cert.Reference7Ideal.main_arg1))
              (m ((c.tc : Thread Cert.Reference7Ideal.nD Cert.Reference7Ideal.τ).loc Cert.Reference7Ideal.main_arg2))
        ∧ r.2.mem ((c.tc : Thread Cert.Reference7Ideal.nD Cert.Reference7Ideal.τ).loc Cert.Reference7Ideal.main_v123)
          = Cert.Reference7Ideal.Ret.stateRef (m ((c.tc : Thread Cert.Reference7Ideal.nD Cert.Reference7Ideal.τ).loc Cert.Reference7Ideal.main_arg0))
              (m ((c.tc : Thread Cert.Reference7Ideal.nD Cert.Reference7Ideal.τ).loc Cert.Reference7Ideal.main_arg2))
        ∧ r.2.mem ((c.tc : Thread Cert.Reference7Ideal.nD Cert.Reference7Ideal.τ).loc Cert.Reference7Ideal.main_arg0)
          = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1)
          = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2)
          = m ((c.tc : Thread Cert.Reference7Ideal.nD Cert.Reference7Ideal.τ).loc Cert.Reference7Ideal.main_arg2) :=
  Cert.Reference7Ideal.Value.run m ρ

/-- The retention: over the extended reals the kernel and its reference compute the same function. -/
theorem ret_algebraic : Cert.algebraic_Kernel7Ideal_Reference7Ideal := by
  pair_intro
  · run_from Cert.Kernel7Ideal.Value.run_blocks m g
  · run_from ret_reference m' g'
    · exact (Cert.Kernel7Ideal.Ret.final8 m c).symm
    · exact (Cert.Kernel7Ideal.Ret.final9 m c).symm

end Cert.Proof

end
-- ==== Proof.lean ====
/- The claims of this certificate, put together: of every call its frames and its value. -/
module

public import proofs.«01_k».proof.Defs
public import proofs.«01_k».proof.Proof.PrepClaim
public import proofs.«01_k».proof.Proof.FfnClaim
public import proofs.«01_k».proof.Proof.MemClaim
public import proofs.«01_k».proof.Proof.AttnClaim
public import proofs.«01_k».proof.Proof.PostClaim
public import proofs.«01_k».proof.Proof.InProjClaim
public import proofs.«01_k».proof.Proof.RetClaim
public import proofs.«01_k».proof.Proof.PrepFrame
public import proofs.«01_k».proof.Proof.InProjFrame
public import proofs.«01_k».proof.Proof.Gen.Kernel
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The weights' preparation: the kernel and its ideal program have the same body, so the same table of bodies. -/
theorem bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- The same with the pipeline's own labels. -/
theorem table : Cert.Kernel.defs (F := Bits) = Cert.KernelIdeal.defs (F := Bits) :=
  congrArg (Pipeline.defs (Cert.KernelIdeal.pcfgs (F := Bits))) bodies

/-- The weights' preparation: the kernel terminates, leaves its arguments as they were and its semaphores at zero. The run
    holds over any float values, and the kernel and its ideal program have the same text. -/
theorem frame_kernel : Cert.quiescent_Kernel := fun m ρ _ => by
  rw [table]
  exact (θ_run Cert.KernelIdeal.defs _ _).mono (fun _ h => ⟨fun c => h.1 c, h.2⟩) (Cert.KernelIdeal.Prep.frame (F := Bits) m ρ)

/-- The same of its ideal program. -/
theorem frame_kernel_ideal : Cert.quiescent_KernelIdeal := fun m ρ _ => Cert.KernelIdeal.Prep.frame m ρ

/-- The weights' preparation: the reference terminates, leaves its arguments as they were and its semaphores at zero. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

/-- The feed-forward part: the reference terminates, leaves its arguments as they were and its semaphores at zero. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

/-- The memory's projection: the reference terminates, leaves its arguments as they were and its semaphores at zero. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- The attention: the reference terminates, leaves its arguments as they were and its semaphores at zero. -/
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

/-- The part after the mixers: the reference terminates, leaves its arguments as they were and its semaphores at zero. -/
theorem frame_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run m ρ)

/-- The input projection: the kernel and its ideal program have the same body, so the same table of bodies. -/
theorem bodies6 : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, (t, s) => rfl

/-- The same with the pipeline's own labels. -/
theorem table6 : Cert.Kernel6.defs (F := Bits) = Cert.Kernel6Ideal.defs (F := Bits) :=
  congrArg (Pipeline.defs (Cert.Kernel6Ideal.pcfgs (F := Bits))) bodies6

/-- The input projection: the kernel terminates, leaves its arguments as they were and its semaphores at zero. The run
    holds over any float values, and the kernel and its ideal program have the same text. -/
theorem frame_kernel6 : Cert.quiescent_Kernel6 := fun m ρ _ => by
  rw [table6]
  exact (θ_run Cert.Kernel6Ideal.defs _ _).mono (fun _ h => ⟨fun c => h.1 c, h.2⟩) (Cert.Kernel6Ideal.InProj.frame (F := Bits) m ρ)

/-- The same of its ideal program. -/
theorem frame_kernel6_ideal : Cert.quiescent_Kernel6Ideal := fun m ρ _ => Cert.Kernel6Ideal.InProj.frame m ρ

/-- The input projection: the reference terminates, leaves its arguments as they were and its semaphores at zero. -/
theorem frame_reference6 : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run m ρ)

/-- The retention: the reference terminates, leaves its arguments as they were and its semaphores at zero. -/
theorem frame_reference7 : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run m ρ)

/-- The retention: each named constant of the ideal program rounds to the kernel's literal. -/
theorem preserves7 : Cert.preserves_Kernel7_Kernel7Ideal :=
  ⟨IdealRules.named_const.statement Cert.Kernel7Ideal.κ "log_gamma0" .f32 0xBD020AEC#32 _ rfl,
    IdealRules.named_const.statement Cert.Kernel7Ideal.κ "log_gamma1" .f32 0xBC8102B3#32 _ rfl,
    IdealRules.named_const.statement Cert.Kernel7Ideal.κ "log_gamma2" .f32 0xBC0080AC#32 _ rfl,
    IdealRules.named_const.statement Cert.Kernel7Ideal.κ "log_gamma3" .f32 0xBB80402B#32 _ rfl,
    IdealRules.named_const.statement Cert.Kernel7Ideal.κ "gamma0" .f32 0x3F469444#32 _ rfl,
    IdealRules.named_const.statement Cert.Kernel7Ideal.κ "gamma1" .f32 0x3F61B245#32 _ rfl,
    IdealRules.named_const.statement Cert.Kernel7Ideal.κ "gamma2" .f32 0x3F706E44#32 _ rfl,
    IdealRules.named_const.statement Cert.Kernel7Ideal.κ "gamma3" .f32 0x3F781BC8#32 _ rfl⟩

/-- The claim: of every call the three frames, the preservation, and the equation of kernel and reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    frame_kernel, frame_kernel_ideal, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    frame_kernel6, frame_kernel6_ideal, frame_reference6,
    fun m ρ _ => Cert.Kernel7.Gen.frame m ρ, fun m ρ _ => Cert.Kernel7Ideal.Gen.frame m ρ, frame_reference7,
    trivial, prep_algebraic,
    trivial, ffn_algebraic,
    trivial, mem_algebraic,
    trivial, attn_algebraic,
    trivial, post_algebraic,
    trivial, inProj_algebraic,
    preserves7, ret_algebraic⟩

end Cert.Proof

end
